-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4x4x64x1024 : Shape := ⟨4, ![4, 4, 64, 1024]⟩
abbrev S4x2x64x1024 : Shape := ⟨4, ![4, 2, 64, 1024]⟩
abbrev S4 : Shape := ⟨1, ![4]⟩
abbrev S4x3 : Shape := ⟨2, ![4, 3]⟩
abbrev S1 : Shape := ⟨1, ![1]⟩
abbrev S_ : Shape := ⟨0, ![]⟩
abbrev S1x1x64x1024 : Shape := ⟨4, ![1, 1, 64, 1024]⟩
abbrev S64x1024 : Shape := ⟨2, ![64, 1024]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4x4x64x1024, .f32⟩
  | .local _ .vmem, ⟨1, _⟩ => ⟨S4x2x64x1024, .f32⟩
  | _, _ => ⟨S4096x1024, .f32⟩

abbrev bufScoped : (cs : CoreSpace) → Fin (nBuf (.core cs)) → Bool
  | .vmem, ⟨0, _⟩ => true
  | .vmem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 5 24 bufScoped semScoped dmaSemScoped tileCredit tileCredit_eq_zero tileCredit_pos).withBarriers [(0, 4)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 4

abbrev nD : Nat := 16
abbrev τ : Topo := Topo.v7x

variable {F : FTy → Type} [FloatOps F]

abbrev grid0 : Pipeline.Grid := .none

def k0_off1 (d0 : Dev nD) (c0_i32_37 : BitVec 32) (c0_i32_40 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let v68 : BitVec 32 := Scalar.addi v29 c0_i32_37
  let c32_i32_38 : BitVec 32 := 32#32
  let v69 : BitVec 32 := Scalar.addi v68 c32_i32_38
  let c16_i32_39 : BitVec 32 := 16#32
  let v70 : BitVec 32 := Scalar.remsi v69 c16_i32_39
  let c256_i32 : BitVec 32 := 256#32
  let v71 : BitVec 32 := Scalar.muli v70 c256_i32
  let v72 : BitVec 32 := Scalar.addi v71 c0_i32_40
  let c0_i32_46 : BitVec 32 := 0#32
  ![v72.toNat, 0]
def k0_off1_at (r : Fin 68) : BitVec 32 × BitVec 32 :=
  if r.val < 34 then
    if r.val < 17 then
      if r.val < 8 then
        if r.val < 4 then
          if r.val < 2 then
            if r.val < 1 then
              (0#32, 0#32)
            else
              (0#32, 128#32)
          else
            if r.val < 3 then
              (0#32, 64#32)
            else
              (0#32, 192#32)
        else
          if r.val < 6 then
            if r.val < 5 then
              (4294967295#32, 0#32)
            else
              (1#32, 128#32)
          else
            if r.val < 7 then
              (4294967295#32, 64#32)
            else
              (1#32, 192#32)
      else
        if r.val < 12 then
          if r.val < 10 then
            if r.val < 9 then
              (4294967294#32, 0#32)
            else
              (2#32, 128#32)
          else
            if r.val < 11 then
              (4294967294#32, 64#32)
            else
              (2#32, 192#32)
        else
          if r.val < 14 then
            if r.val < 13 then
              (4294967293#32, 0#32)
            else
              (3#32, 128#32)
          else
            if r.val < 15 then
              (4294967293#32, 64#32)
            else
              if r.val < 16 then
                (3#32, 192#32)
              else
                (4294967292#32, 0#32)
    else
      if r.val < 25 then
        if r.val < 21 then
          if r.val < 19 then
            if r.val < 18 then
              (4#32, 128#32)
            else
              (4294967292#32, 64#32)
          else
            if r.val < 20 then
              (4#32, 192#32)
            else
              (4294967291#32, 0#32)
        else
          if r.val < 23 then
            if r.val < 22 then
              (5#32, 128#32)
            else
              (4294967291#32, 64#32)
          else
            if r.val < 24 then
              (5#32, 192#32)
            else
              (4294967290#32, 0#32)
      else
        if r.val < 29 then
          if r.val < 27 then
            if r.val < 26 then
              (6#32, 128#32)
            else
              (4294967290#32, 64#32)
          else
            if r.val < 28 then
              (6#32, 192#32)
            else
              (4294967289#32, 0#32)
        else
          if r.val < 31 then
            if r.val < 30 then
              (7#32, 128#32)
            else
              (4294967289#32, 64#32)
          else
            if r.val < 32 then
              (7#32, 192#32)
            else
              if r.val < 33 then
                (4294967288#32, 0#32)
              else
                (8#32, 128#32)
  else
    if r.val < 51 then
      if r.val < 42 then
        if r.val < 38 then
          if r.val < 36 then
            if r.val < 35 then
              (4294967288#32, 64#32)
            else
              (8#32, 192#32)
          else
            if r.val < 37 then
              (4294967287#32, 0#32)
            else
              (9#32, 128#32)
        else
          if r.val < 40 then
            if r.val < 39 then
              (4294967287#32, 64#32)
            else
              (9#32, 192#32)
          else
            if r.val < 41 then
              (4294967286#32, 0#32)
            else
              (10#32, 128#32)
      else
        if r.val < 46 then
          if r.val < 44 then
            if r.val < 43 then
              (4294967286#32, 64#32)
            else
              (10#32, 192#32)
          else
            if r.val < 45 then
              (4294967285#32, 0#32)
            else
              (11#32, 128#32)
        else
          if r.val < 48 then
            if r.val < 47 then
              (4294967285#32, 64#32)
            else
              (11#32, 192#32)
          else
            if r.val < 49 then
              (4294967284#32, 0#32)
            else
              if r.val < 50 then
                (12#32, 128#32)
              else
                (4294967284#32, 64#32)
    else
      if r.val < 59 then
        if r.val < 55 then
          if r.val < 53 then
            if r.val < 52 then
              (12#32, 192#32)
            else
              (4294967283#32, 0#32)
          else
            if r.val < 54 then
              (13#32, 128#32)
            else
              (4294967283#32, 64#32)
        else
          if r.val < 57 then
            if r.val < 56 then
              (13#32, 192#32)
            else
              (4294967282#32, 0#32)
          else
            if r.val < 58 then
              (14#32, 128#32)
            else
              (4294967282#32, 64#32)
      else
        if r.val < 63 then
          if r.val < 61 then
            if r.val < 60 then
              (14#32, 192#32)
            else
              (4294967281#32, 0#32)
          else
            if r.val < 62 then
              (15#32, 128#32)
            else
              (4294967281#32, 64#32)
        else
          if r.val < 65 then
            if r.val < 64 then
              (15#32, 192#32)
            else
              (1#32, 0#32)
          else
            if r.val < 66 then
              (4294967295#32, 128#32)
            else
              if r.val < 67 then
                (1#32, 64#32)
              else
                (4294967295#32, 192#32)
def k0_dev1 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_78 : BitVec 32 := 1#32
  let v109 : BitVec 32 := Scalar.muli v48 c1_i32_78
  let v110 : BitVec 32 := Scalar.addi c0_i32_79 v109
  v110.toNat
def k0_dev2 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_81 : BitVec 32 := 1#32
  let v111 : BitVec 32 := Scalar.muli v67 c1_i32_81
  let v112 : BitVec 32 := Scalar.addi c0_i32_82 v111
  v112.toNat
def k0_dev3 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_119 : BitVec 32 := 1#32
  let v138 : BitVec 32 := Scalar.muli v67 c1_i32_119
  let v139 : BitVec 32 := Scalar.addi c0_i32_120 v138
  v139.toNat
def k0_dev4 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_161 : BitVec 32 := 1#32
  let v173 : BitVec 32 := Scalar.muli v48 c1_i32_161
  let v174 : BitVec 32 := Scalar.addi c0_i32_162 v173
  v174.toNat
def k0_dev5 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_203 : BitVec 32 := 1#32
  let v208 : BitVec 32 := Scalar.muli v67 c1_i32_203
  let v209 : BitVec 32 := Scalar.addi c0_i32_204 v208
  v209.toNat
def k0_dev6 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_245 : BitVec 32 := 1#32
  let v243 : BitVec 32 := Scalar.muli v48 c1_i32_245
  let v244 : BitVec 32 := Scalar.addi c0_i32_246 v243
  v244.toNat
def k0_dev7 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_316 : BitVec 32 := 1#32
  let v295 : BitVec 32 := Scalar.muli v67 c1_i32_316
  let v296 : BitVec 32 := Scalar.addi c0_i32_317 v295
  v296.toNat
def k0_dev8 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_388 : BitVec 32 := 1#32
  let v347 : BitVec 32 := Scalar.muli v48 c1_i32_388
  let v348 : BitVec 32 := Scalar.addi c0_i32_389 v347
  v348.toNat
def k0_dev9 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_460 : BitVec 32 := 1#32
  let v399 : BitVec 32 := Scalar.muli v67 c1_i32_460
  let v400 : BitVec 32 := Scalar.addi c0_i32_461 v399
  v400.toNat
def k0_dev10 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_532 : BitVec 32 := 1#32
  let v451 : BitVec 32 := Scalar.muli v48 c1_i32_532
  let v452 : BitVec 32 := Scalar.addi c0_i32_533 v451
  v452.toNat
def k0_dev11 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_598 : BitVec 32 := 1#32
  let v505 : BitVec 32 := Scalar.muli v48 c1_i32_598
  let v506 : BitVec 32 := Scalar.addi c0_i32_599 v505
  v506.toNat
def k0_dev12 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_607 : BitVec 32 := 1#32
  let v507 : BitVec 32 := Scalar.muli v67 c1_i32_607
  let v508 : BitVec 32 := Scalar.addi c0_i32_608 v507
  v508.toNat
def k0_dev13 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_674 : BitVec 32 := 1#32
  let v561 : BitVec 32 := Scalar.muli v67 c1_i32_674
  let v562 : BitVec 32 := Scalar.addi c0_i32_675 v561
  v562.toNat
def k0_dev14 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_683 : BitVec 32 := 1#32
  let v563 : BitVec 32 := Scalar.muli v48 c1_i32_683
  let v564 : BitVec 32 := Scalar.addi c0_i32_684 v563
  v564.toNat
def k0_dev15 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_750 : BitVec 32 := 1#32
  let v617 : BitVec 32 := Scalar.muli v48 c1_i32_750
  let v618 : BitVec 32 := Scalar.addi c0_i32_751 v617
  v618.toNat
def k0_dev16 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_759 : BitVec 32 := 1#32
  let v619 : BitVec 32 := Scalar.muli v67 c1_i32_759
  let v620 : BitVec 32 := Scalar.addi c0_i32_760 v619
  v620.toNat
def k0_dev17 (d0 : Dev nD) : Nat :=
  let c0_i32_827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_826 : BitVec 32 := 1#32
  let v673 : BitVec 32 := Scalar.muli v67 c1_i32_826
  let v674 : BitVec 32 := Scalar.addi c0_i32_827 v673
  v674.toNat
def k0_dev18 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_835 : BitVec 32 := 1#32
  let v675 : BitVec 32 := Scalar.muli v48 c1_i32_835
  let v676 : BitVec 32 := Scalar.addi c0_i32_836 v675
  v676.toNat
def k0_dev19 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_901 : BitVec 32 := 1#32
  let v729 : BitVec 32 := Scalar.muli v48 c1_i32_901
  let v730 : BitVec 32 := Scalar.addi c0_i32_902 v729
  v730.toNat
def k0_dev20 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_913 : BitVec 32 := 1#32
  let v733 : BitVec 32 := Scalar.muli v67 c1_i32_913
  let v734 : BitVec 32 := Scalar.addi c0_i32_914 v733
  v734.toNat
def k0_dev21 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_980 : BitVec 32 := 1#32
  let v787 : BitVec 32 := Scalar.muli v67 c1_i32_980
  let v788 : BitVec 32 := Scalar.addi c0_i32_981 v787
  v788.toNat
def k0_dev22 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_992 : BitVec 32 := 1#32
  let v791 : BitVec 32 := Scalar.muli v48 c1_i32_992
  let v792 : BitVec 32 := Scalar.addi c0_i32_993 v791
  v792.toNat
def k0_dev23 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1059 : BitVec 32 := 1#32
  let v845 : BitVec 32 := Scalar.muli v48 c1_i32_1059
  let v846 : BitVec 32 := Scalar.addi c0_i32_1060 v845
  v846.toNat
def k0_dev24 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1071 : BitVec 32 := 1#32
  let v849 : BitVec 32 := Scalar.muli v67 c1_i32_1071
  let v850 : BitVec 32 := Scalar.addi c0_i32_1072 v849
  v850.toNat
def k0_dev25 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1138 : BitVec 32 := 1#32
  let v903 : BitVec 32 := Scalar.muli v67 c1_i32_1138
  let v904 : BitVec 32 := Scalar.addi c0_i32_1139 v903
  v904.toNat
def k0_dev26 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1150 : BitVec 32 := 1#32
  let v907 : BitVec 32 := Scalar.muli v48 c1_i32_1150
  let v908 : BitVec 32 := Scalar.addi c0_i32_1151 v907
  v908.toNat
def k0_dev27 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1216 : BitVec 32 := 1#32
  let v961 : BitVec 32 := Scalar.muli v48 c1_i32_1216
  let v962 : BitVec 32 := Scalar.addi c0_i32_1217 v961
  v962.toNat
def k0_dev28 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1228 : BitVec 32 := 1#32
  let v965 : BitVec 32 := Scalar.muli v67 c1_i32_1228
  let v966 : BitVec 32 := Scalar.addi c0_i32_1229 v965
  v966.toNat
def k0_dev29 (d0 : Dev nD) : Nat :=
  let c0_i32_1295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1294 : BitVec 32 := 1#32
  let v1019 : BitVec 32 := Scalar.muli v67 c1_i32_1294
  let v1020 : BitVec 32 := Scalar.addi c0_i32_1295 v1019
  v1020.toNat
def k0_dev30 (d0 : Dev nD) : Nat :=
  let c0_i32_1307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1306 : BitVec 32 := 1#32
  let v1023 : BitVec 32 := Scalar.muli v48 c1_i32_1306
  let v1024 : BitVec 32 := Scalar.addi c0_i32_1307 v1023
  v1024.toNat
def k0_dev31 (d0 : Dev nD) : Nat :=
  let c0_i32_1374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1373 : BitVec 32 := 1#32
  let v1077 : BitVec 32 := Scalar.muli v48 c1_i32_1373
  let v1078 : BitVec 32 := Scalar.addi c0_i32_1374 v1077
  v1078.toNat
def k0_dev32 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1385 : BitVec 32 := 1#32
  let v1081 : BitVec 32 := Scalar.muli v67 c1_i32_1385
  let v1082 : BitVec 32 := Scalar.addi c0_i32_1386 v1081
  v1082.toNat
def k0_dev33 (d0 : Dev nD) : Nat :=
  let c0_i32_1453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1452 : BitVec 32 := 1#32
  let v1135 : BitVec 32 := Scalar.muli v67 c1_i32_1452
  let v1136 : BitVec 32 := Scalar.addi c0_i32_1453 v1135
  v1136.toNat
def k0_dev34 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1464 : BitVec 32 := 1#32
  let v1139 : BitVec 32 := Scalar.muli v48 c1_i32_1464
  let v1140 : BitVec 32 := Scalar.addi c0_i32_1465 v1139
  v1140.toNat
def k0_dev35 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1530 : BitVec 32 := 1#32
  let v1193 : BitVec 32 := Scalar.muli v48 c1_i32_1530
  let v1194 : BitVec 32 := Scalar.addi c0_i32_1531 v1193
  v1194.toNat
def k0_dev36 (d0 : Dev nD) : Nat :=
  let c0_i32_1543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1542 : BitVec 32 := 1#32
  let v1197 : BitVec 32 := Scalar.muli v67 c1_i32_1542
  let v1198 : BitVec 32 := Scalar.addi c0_i32_1543 v1197
  v1198.toNat
def k0_dev37 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1608 : BitVec 32 := 1#32
  let v1251 : BitVec 32 := Scalar.muli v67 c1_i32_1608
  let v1252 : BitVec 32 := Scalar.addi c0_i32_1609 v1251
  v1252.toNat
def k0_dev38 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1620 : BitVec 32 := 1#32
  let v1255 : BitVec 32 := Scalar.muli v48 c1_i32_1620
  let v1256 : BitVec 32 := Scalar.addi c0_i32_1621 v1255
  v1256.toNat
def k0_dev39 (d0 : Dev nD) : Nat :=
  let c0_i32_1688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1687 : BitVec 32 := 1#32
  let v1309 : BitVec 32 := Scalar.muli v48 c1_i32_1687
  let v1310 : BitVec 32 := Scalar.addi c0_i32_1688 v1309
  v1310.toNat
def k0_dev40 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1699 : BitVec 32 := 1#32
  let v1313 : BitVec 32 := Scalar.muli v67 c1_i32_1699
  let v1314 : BitVec 32 := Scalar.addi c0_i32_1700 v1313
  v1314.toNat
def k0_dev41 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1766 : BitVec 32 := 1#32
  let v1367 : BitVec 32 := Scalar.muli v67 c1_i32_1766
  let v1368 : BitVec 32 := Scalar.addi c0_i32_1767 v1367
  v1368.toNat
def k0_dev42 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1778 : BitVec 32 := 1#32
  let v1371 : BitVec 32 := Scalar.muli v48 c1_i32_1778
  let v1372 : BitVec 32 := Scalar.addi c0_i32_1779 v1371
  v1372.toNat
def k0_dev43 (d0 : Dev nD) : Nat :=
  let c0_i32_1845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1844 : BitVec 32 := 1#32
  let v1425 : BitVec 32 := Scalar.muli v48 c1_i32_1844
  let v1426 : BitVec 32 := Scalar.addi c0_i32_1845 v1425
  v1426.toNat
def k0_dev44 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1856 : BitVec 32 := 1#32
  let v1429 : BitVec 32 := Scalar.muli v67 c1_i32_1856
  let v1430 : BitVec 32 := Scalar.addi c0_i32_1857 v1429
  v1430.toNat
def k0_dev45 (d0 : Dev nD) : Nat :=
  let c0_i32_1924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_1923 : BitVec 32 := 1#32
  let v1483 : BitVec 32 := Scalar.muli v67 c1_i32_1923
  let v1484 : BitVec 32 := Scalar.addi c0_i32_1924 v1483
  v1484.toNat
def k0_dev46 (d0 : Dev nD) : Nat :=
  let c0_i32_1936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_1935 : BitVec 32 := 1#32
  let v1487 : BitVec 32 := Scalar.muli v48 c1_i32_1935
  let v1488 : BitVec 32 := Scalar.addi c0_i32_1936 v1487
  v1488.toNat
def k0_dev47 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2002 : BitVec 32 := 1#32
  let v1541 : BitVec 32 := Scalar.muli v48 c1_i32_2002
  let v1542 : BitVec 32 := Scalar.addi c0_i32_2003 v1541
  v1542.toNat
def k0_dev48 (d0 : Dev nD) : Nat :=
  let c0_i32_2015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2014 : BitVec 32 := 1#32
  let v1545 : BitVec 32 := Scalar.muli v67 c1_i32_2014
  let v1546 : BitVec 32 := Scalar.addi c0_i32_2015 v1545
  v1546.toNat
def k0_dev49 (d0 : Dev nD) : Nat :=
  let c0_i32_2082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2081 : BitVec 32 := 1#32
  let v1599 : BitVec 32 := Scalar.muli v67 c1_i32_2081
  let v1600 : BitVec 32 := Scalar.addi c0_i32_2082 v1599
  v1600.toNat
def k0_dev50 (d0 : Dev nD) : Nat :=
  let c0_i32_2094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2093 : BitVec 32 := 1#32
  let v1603 : BitVec 32 := Scalar.muli v48 c1_i32_2093
  let v1604 : BitVec 32 := Scalar.addi c0_i32_2094 v1603
  v1604.toNat
def k0_dev51 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2159 : BitVec 32 := 1#32
  let v1657 : BitVec 32 := Scalar.muli v48 c1_i32_2159
  let v1658 : BitVec 32 := Scalar.addi c0_i32_2160 v1657
  v1658.toNat
def k0_dev52 (d0 : Dev nD) : Nat :=
  let c0_i32_2172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2171 : BitVec 32 := 1#32
  let v1661 : BitVec 32 := Scalar.muli v67 c1_i32_2171
  let v1662 : BitVec 32 := Scalar.addi c0_i32_2172 v1661
  v1662.toNat
def k0_dev53 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2238 : BitVec 32 := 1#32
  let v1715 : BitVec 32 := Scalar.muli v67 c1_i32_2238
  let v1716 : BitVec 32 := Scalar.addi c0_i32_2239 v1715
  v1716.toNat
def k0_dev54 (d0 : Dev nD) : Nat :=
  let c0_i32_2251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2250 : BitVec 32 := 1#32
  let v1719 : BitVec 32 := Scalar.muli v48 c1_i32_2250
  let v1720 : BitVec 32 := Scalar.addi c0_i32_2251 v1719
  v1720.toNat
def k0_dev55 (d0 : Dev nD) : Nat :=
  let c0_i32_2318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2317 : BitVec 32 := 1#32
  let v1773 : BitVec 32 := Scalar.muli v48 c1_i32_2317
  let v1774 : BitVec 32 := Scalar.addi c0_i32_2318 v1773
  v1774.toNat
def k0_dev56 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2329 : BitVec 32 := 1#32
  let v1777 : BitVec 32 := Scalar.muli v67 c1_i32_2329
  let v1778 : BitVec 32 := Scalar.addi c0_i32_2330 v1777
  v1778.toNat
def k0_dev57 (d0 : Dev nD) : Nat :=
  let c0_i32_2397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2396 : BitVec 32 := 1#32
  let v1831 : BitVec 32 := Scalar.muli v67 c1_i32_2396
  let v1832 : BitVec 32 := Scalar.addi c0_i32_2397 v1831
  v1832.toNat
def k0_dev58 (d0 : Dev nD) : Nat :=
  let c0_i32_2409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2408 : BitVec 32 := 1#32
  let v1835 : BitVec 32 := Scalar.muli v48 c1_i32_2408
  let v1836 : BitVec 32 := Scalar.addi c0_i32_2409 v1835
  v1836.toNat
def k0_dev59 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2474 : BitVec 32 := 1#32
  let v1889 : BitVec 32 := Scalar.muli v48 c1_i32_2474
  let v1890 : BitVec 32 := Scalar.addi c0_i32_2475 v1889
  v1890.toNat
def k0_dev60 (d0 : Dev nD) : Nat :=
  let c0_i32_2487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2486 : BitVec 32 := 1#32
  let v1893 : BitVec 32 := Scalar.muli v67 c1_i32_2486
  let v1894 : BitVec 32 := Scalar.addi c0_i32_2487 v1893
  v1894.toNat
def k0_dev61 (d0 : Dev nD) : Nat :=
  let c0_i32_2553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2552 : BitVec 32 := 1#32
  let v1947 : BitVec 32 := Scalar.muli v67 c1_i32_2552
  let v1948 : BitVec 32 := Scalar.addi c0_i32_2553 v1947
  v1948.toNat
def k0_dev62 (d0 : Dev nD) : Nat :=
  let c0_i32_2565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2564 : BitVec 32 := 1#32
  let v1951 : BitVec 32 := Scalar.muli v48 c1_i32_2564
  let v1952 : BitVec 32 := Scalar.addi c0_i32_2565 v1951
  v1952.toNat
def k0_dev63 (d0 : Dev nD) : Nat :=
  let c0_i32_2632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2631 : BitVec 32 := 1#32
  let v2005 : BitVec 32 := Scalar.muli v48 c1_i32_2631
  let v2006 : BitVec 32 := Scalar.addi c0_i32_2632 v2005
  v2006.toNat
def k0_dev64 (d0 : Dev nD) : Nat :=
  let c0_i32_2644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2643 : BitVec 32 := 1#32
  let v2009 : BitVec 32 := Scalar.muli v67 c1_i32_2643
  let v2010 : BitVec 32 := Scalar.addi c0_i32_2644 v2009
  v2010.toNat
def k0_dev65 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2710 : BitVec 32 := 1#32
  let v2063 : BitVec 32 := Scalar.muli v67 c1_i32_2710
  let v2064 : BitVec 32 := Scalar.addi c0_i32_2711 v2063
  v2064.toNat
def k0_dev66 (d0 : Dev nD) : Nat :=
  let c0_i32_2723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2722 : BitVec 32 := 1#32
  let v2067 : BitVec 32 := Scalar.muli v48 c1_i32_2722
  let v2068 : BitVec 32 := Scalar.addi c0_i32_2723 v2067
  v2068.toNat
def k0_dev67 (d0 : Dev nD) : Nat :=
  let c0_i32_2789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2788 : BitVec 32 := 1#32
  let v2121 : BitVec 32 := Scalar.muli v48 c1_i32_2788
  let v2122 : BitVec 32 := Scalar.addi c0_i32_2789 v2121
  v2122.toNat
def k0_dev68 (d0 : Dev nD) : Nat :=
  let c0_i32_2801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2800 : BitVec 32 := 1#32
  let v2125 : BitVec 32 := Scalar.muli v67 c1_i32_2800
  let v2126 : BitVec 32 := Scalar.addi c0_i32_2801 v2125
  v2126.toNat
def k0_dev69 (d0 : Dev nD) : Nat :=
  let c0_i32_2867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2866 : BitVec 32 := 1#32
  let v2179 : BitVec 32 := Scalar.muli v67 c1_i32_2866
  let v2180 : BitVec 32 := Scalar.addi c0_i32_2867 v2179
  v2180.toNat
def k0_dev70 (d0 : Dev nD) : Nat :=
  let c0_i32_2879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2878 : BitVec 32 := 1#32
  let v2183 : BitVec 32 := Scalar.muli v48 c1_i32_2878
  let v2184 : BitVec 32 := Scalar.addi c0_i32_2879 v2183
  v2184.toNat
def k0_dev71 (d0 : Dev nD) : Nat :=
  let c0_i32_2946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_2945 : BitVec 32 := 1#32
  let v2237 : BitVec 32 := Scalar.muli v48 c1_i32_2945
  let v2238 : BitVec 32 := Scalar.addi c0_i32_2946 v2237
  v2238.toNat
def k0_dev72 (d0 : Dev nD) : Nat :=
  let c0_i32_2958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_2957 : BitVec 32 := 1#32
  let v2241 : BitVec 32 := Scalar.muli v67 c1_i32_2957
  let v2242 : BitVec 32 := Scalar.addi c0_i32_2958 v2241
  v2242.toNat
def k0_dev73 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3024 : BitVec 32 := 1#32
  let v2295 : BitVec 32 := Scalar.muli v67 c1_i32_3024
  let v2296 : BitVec 32 := Scalar.addi c0_i32_3025 v2295
  v2296.toNat
def k0_dev74 (d0 : Dev nD) : Nat :=
  let c0_i32_3037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3036 : BitVec 32 := 1#32
  let v2299 : BitVec 32 := Scalar.muli v48 c1_i32_3036
  let v2300 : BitVec 32 := Scalar.addi c0_i32_3037 v2299
  v2300.toNat
def k0_dev75 (d0 : Dev nD) : Nat :=
  let c0_i32_3103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3102 : BitVec 32 := 1#32
  let v2353 : BitVec 32 := Scalar.muli v48 c1_i32_3102
  let v2354 : BitVec 32 := Scalar.addi c0_i32_3103 v2353
  v2354.toNat
def k0_dev76 (d0 : Dev nD) : Nat :=
  let c0_i32_3115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3114 : BitVec 32 := 1#32
  let v2357 : BitVec 32 := Scalar.muli v67 c1_i32_3114
  let v2358 : BitVec 32 := Scalar.addi c0_i32_3115 v2357
  v2358.toNat
def k0_dev77 (d0 : Dev nD) : Nat :=
  let c0_i32_3181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3180 : BitVec 32 := 1#32
  let v2411 : BitVec 32 := Scalar.muli v67 c1_i32_3180
  let v2412 : BitVec 32 := Scalar.addi c0_i32_3181 v2411
  v2412.toNat
def k0_dev78 (d0 : Dev nD) : Nat :=
  let c0_i32_3193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3192 : BitVec 32 := 1#32
  let v2415 : BitVec 32 := Scalar.muli v48 c1_i32_3192
  let v2416 : BitVec 32 := Scalar.addi c0_i32_3193 v2415
  v2416.toNat
def k0_dev79 (d0 : Dev nD) : Nat :=
  let c0_i32_3260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3259 : BitVec 32 := 1#32
  let v2469 : BitVec 32 := Scalar.muli v48 c1_i32_3259
  let v2470 : BitVec 32 := Scalar.addi c0_i32_3260 v2469
  v2470.toNat
def k0_dev80 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3271 : BitVec 32 := 1#32
  let v2473 : BitVec 32 := Scalar.muli v67 c1_i32_3271
  let v2474 : BitVec 32 := Scalar.addi c0_i32_3272 v2473
  v2474.toNat
def k0_dev81 (d0 : Dev nD) : Nat :=
  let c0_i32_3339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3338 : BitVec 32 := 1#32
  let v2527 : BitVec 32 := Scalar.muli v67 c1_i32_3338
  let v2528 : BitVec 32 := Scalar.addi c0_i32_3339 v2527
  v2528.toNat
def k0_dev82 (d0 : Dev nD) : Nat :=
  let c0_i32_3351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3350 : BitVec 32 := 1#32
  let v2531 : BitVec 32 := Scalar.muli v48 c1_i32_3350
  let v2532 : BitVec 32 := Scalar.addi c0_i32_3351 v2531
  v2532.toNat
def k0_dev83 (d0 : Dev nD) : Nat :=
  let c0_i32_3417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3416 : BitVec 32 := 1#32
  let v2585 : BitVec 32 := Scalar.muli v48 c1_i32_3416
  let v2586 : BitVec 32 := Scalar.addi c0_i32_3417 v2585
  v2586.toNat
def k0_dev84 (d0 : Dev nD) : Nat :=
  let c0_i32_3429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3428 : BitVec 32 := 1#32
  let v2589 : BitVec 32 := Scalar.muli v67 c1_i32_3428
  let v2590 : BitVec 32 := Scalar.addi c0_i32_3429 v2589
  v2590.toNat
def k0_dev85 (d0 : Dev nD) : Nat :=
  let c0_i32_3496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3495 : BitVec 32 := 1#32
  let v2643 : BitVec 32 := Scalar.muli v67 c1_i32_3495
  let v2644 : BitVec 32 := Scalar.addi c0_i32_3496 v2643
  v2644.toNat
def k0_dev86 (d0 : Dev nD) : Nat :=
  let c0_i32_3508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3507 : BitVec 32 := 1#32
  let v2647 : BitVec 32 := Scalar.muli v48 c1_i32_3507
  let v2648 : BitVec 32 := Scalar.addi c0_i32_3508 v2647
  v2648.toNat
def k0_dev87 (d0 : Dev nD) : Nat :=
  let c0_i32_3575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3574 : BitVec 32 := 1#32
  let v2701 : BitVec 32 := Scalar.muli v48 c1_i32_3574
  let v2702 : BitVec 32 := Scalar.addi c0_i32_3575 v2701
  v2702.toNat
def k0_dev88 (d0 : Dev nD) : Nat :=
  let c0_i32_3587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3586 : BitVec 32 := 1#32
  let v2705 : BitVec 32 := Scalar.muli v67 c1_i32_3586
  let v2706 : BitVec 32 := Scalar.addi c0_i32_3587 v2705
  v2706.toNat
def k0_dev89 (d0 : Dev nD) : Nat :=
  let c0_i32_3654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3653 : BitVec 32 := 1#32
  let v2759 : BitVec 32 := Scalar.muli v67 c1_i32_3653
  let v2760 : BitVec 32 := Scalar.addi c0_i32_3654 v2759
  v2760.toNat
def k0_dev90 (d0 : Dev nD) : Nat :=
  let c0_i32_3666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3665 : BitVec 32 := 1#32
  let v2763 : BitVec 32 := Scalar.muli v48 c1_i32_3665
  let v2764 : BitVec 32 := Scalar.addi c0_i32_3666 v2763
  v2764.toNat
def k0_dev91 (d0 : Dev nD) : Nat :=
  let c0_i32_3732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3731 : BitVec 32 := 1#32
  let v2817 : BitVec 32 := Scalar.muli v48 c1_i32_3731
  let v2818 : BitVec 32 := Scalar.addi c0_i32_3732 v2817
  v2818.toNat
def k0_dev92 (d0 : Dev nD) : Nat :=
  let c0_i32_3744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3743 : BitVec 32 := 1#32
  let v2821 : BitVec 32 := Scalar.muli v67 c1_i32_3743
  let v2822 : BitVec 32 := Scalar.addi c0_i32_3744 v2821
  v2822.toNat
def k0_dev93 (d0 : Dev nD) : Nat :=
  let c0_i32_3810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3809 : BitVec 32 := 1#32
  let v2875 : BitVec 32 := Scalar.muli v67 c1_i32_3809
  let v2876 : BitVec 32 := Scalar.addi c0_i32_3810 v2875
  v2876.toNat
def k0_dev94 (d0 : Dev nD) : Nat :=
  let c0_i32_3822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3821 : BitVec 32 := 1#32
  let v2879 : BitVec 32 := Scalar.muli v48 c1_i32_3821
  let v2880 : BitVec 32 := Scalar.addi c0_i32_3822 v2879
  v2880.toNat
def k0_dev95 (d0 : Dev nD) : Nat :=
  let c0_i32_3889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3888 : BitVec 32 := 1#32
  let v2933 : BitVec 32 := Scalar.muli v48 c1_i32_3888
  let v2934 : BitVec 32 := Scalar.addi c0_i32_3889 v2933
  v2934.toNat
def k0_dev96 (d0 : Dev nD) : Nat :=
  let c0_i32_3901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3900 : BitVec 32 := 1#32
  let v2937 : BitVec 32 := Scalar.muli v67 c1_i32_3900
  let v2938 : BitVec 32 := Scalar.addi c0_i32_3901 v2937
  v2938.toNat
def k0_dev97 (d0 : Dev nD) : Nat :=
  let c0_i32_3968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_3967 : BitVec 32 := 1#32
  let v2991 : BitVec 32 := Scalar.muli v67 c1_i32_3967
  let v2992 : BitVec 32 := Scalar.addi c0_i32_3968 v2991
  v2992.toNat
def k0_dev98 (d0 : Dev nD) : Nat :=
  let c0_i32_3980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_3979 : BitVec 32 := 1#32
  let v2995 : BitVec 32 := Scalar.muli v48 c1_i32_3979
  let v2996 : BitVec 32 := Scalar.addi c0_i32_3980 v2995
  v2996.toNat
def k0_dev99 (d0 : Dev nD) : Nat :=
  let c0_i32_4046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4045 : BitVec 32 := 1#32
  let v3049 : BitVec 32 := Scalar.muli v48 c1_i32_4045
  let v3050 : BitVec 32 := Scalar.addi c0_i32_4046 v3049
  v3050.toNat
def k0_dev100 (d0 : Dev nD) : Nat :=
  let c0_i32_4058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4057 : BitVec 32 := 1#32
  let v3053 : BitVec 32 := Scalar.muli v67 c1_i32_4057
  let v3054 : BitVec 32 := Scalar.addi c0_i32_4058 v3053
  v3054.toNat
def k0_dev101 (d0 : Dev nD) : Nat :=
  let c0_i32_4124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4123 : BitVec 32 := 1#32
  let v3107 : BitVec 32 := Scalar.muli v67 c1_i32_4123
  let v3108 : BitVec 32 := Scalar.addi c0_i32_4124 v3107
  v3108.toNat
def k0_dev102 (d0 : Dev nD) : Nat :=
  let c0_i32_4136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4135 : BitVec 32 := 1#32
  let v3111 : BitVec 32 := Scalar.muli v48 c1_i32_4135
  let v3112 : BitVec 32 := Scalar.addi c0_i32_4136 v3111
  v3112.toNat
def k0_dev103 (d0 : Dev nD) : Nat :=
  let c0_i32_4203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4202 : BitVec 32 := 1#32
  let v3165 : BitVec 32 := Scalar.muli v48 c1_i32_4202
  let v3166 : BitVec 32 := Scalar.addi c0_i32_4203 v3165
  v3166.toNat
def k0_dev104 (d0 : Dev nD) : Nat :=
  let c0_i32_4215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4214 : BitVec 32 := 1#32
  let v3169 : BitVec 32 := Scalar.muli v67 c1_i32_4214
  let v3170 : BitVec 32 := Scalar.addi c0_i32_4215 v3169
  v3170.toNat
def k0_dev105 (d0 : Dev nD) : Nat :=
  let c0_i32_4282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4281 : BitVec 32 := 1#32
  let v3223 : BitVec 32 := Scalar.muli v67 c1_i32_4281
  let v3224 : BitVec 32 := Scalar.addi c0_i32_4282 v3223
  v3224.toNat
def k0_dev106 (d0 : Dev nD) : Nat :=
  let c0_i32_4294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4293 : BitVec 32 := 1#32
  let v3227 : BitVec 32 := Scalar.muli v48 c1_i32_4293
  let v3228 : BitVec 32 := Scalar.addi c0_i32_4294 v3227
  v3228.toNat
def k0_dev107 (d0 : Dev nD) : Nat :=
  let c0_i32_4360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4359 : BitVec 32 := 1#32
  let v3281 : BitVec 32 := Scalar.muli v48 c1_i32_4359
  let v3282 : BitVec 32 := Scalar.addi c0_i32_4360 v3281
  v3282.toNat
def k0_dev108 (d0 : Dev nD) : Nat :=
  let c0_i32_4372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4371 : BitVec 32 := 1#32
  let v3285 : BitVec 32 := Scalar.muli v67 c1_i32_4371
  let v3286 : BitVec 32 := Scalar.addi c0_i32_4372 v3285
  v3286.toNat
def k0_dev109 (d0 : Dev nD) : Nat :=
  let c0_i32_4439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4438 : BitVec 32 := 1#32
  let v3339 : BitVec 32 := Scalar.muli v67 c1_i32_4438
  let v3340 : BitVec 32 := Scalar.addi c0_i32_4439 v3339
  v3340.toNat
def k0_dev110 (d0 : Dev nD) : Nat :=
  let c0_i32_4451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4450 : BitVec 32 := 1#32
  let v3343 : BitVec 32 := Scalar.muli v48 c1_i32_4450
  let v3344 : BitVec 32 := Scalar.addi c0_i32_4451 v3343
  v3344.toNat
def k0_dev111 (d0 : Dev nD) : Nat :=
  let c0_i32_4518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4517 : BitVec 32 := 1#32
  let v3397 : BitVec 32 := Scalar.muli v48 c1_i32_4517
  let v3398 : BitVec 32 := Scalar.addi c0_i32_4518 v3397
  v3398.toNat
def k0_dev112 (d0 : Dev nD) : Nat :=
  let c0_i32_4530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4529 : BitVec 32 := 1#32
  let v3401 : BitVec 32 := Scalar.muli v67 c1_i32_4529
  let v3402 : BitVec 32 := Scalar.addi c0_i32_4530 v3401
  v3402.toNat
def k0_dev113 (d0 : Dev nD) : Nat :=
  let c0_i32_4597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4596 : BitVec 32 := 1#32
  let v3455 : BitVec 32 := Scalar.muli v67 c1_i32_4596
  let v3456 : BitVec 32 := Scalar.addi c0_i32_4597 v3455
  v3456.toNat
def k0_dev114 (d0 : Dev nD) : Nat :=
  let c0_i32_4609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4608 : BitVec 32 := 1#32
  let v3459 : BitVec 32 := Scalar.muli v48 c1_i32_4608
  let v3460 : BitVec 32 := Scalar.addi c0_i32_4609 v3459
  v3460.toNat
def k0_dev115 (d0 : Dev nD) : Nat :=
  let c0_i32_4676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4675 : BitVec 32 := 1#32
  let v3513 : BitVec 32 := Scalar.muli v48 c1_i32_4675
  let v3514 : BitVec 32 := Scalar.addi c0_i32_4676 v3513
  v3514.toNat
def k0_dev116 (d0 : Dev nD) : Nat :=
  let c0_i32_4688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4687 : BitVec 32 := 1#32
  let v3517 : BitVec 32 := Scalar.muli v67 c1_i32_4687
  let v3518 : BitVec 32 := Scalar.addi c0_i32_4688 v3517
  v3518.toNat
def k0_dev117 (d0 : Dev nD) : Nat :=
  let c0_i32_4755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4754 : BitVec 32 := 1#32
  let v3571 : BitVec 32 := Scalar.muli v67 c1_i32_4754
  let v3572 : BitVec 32 := Scalar.addi c0_i32_4755 v3571
  v3572.toNat
def k0_dev118 (d0 : Dev nD) : Nat :=
  let c0_i32_4767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4766 : BitVec 32 := 1#32
  let v3575 : BitVec 32 := Scalar.muli v48 c1_i32_4766
  let v3576 : BitVec 32 := Scalar.addi c0_i32_4767 v3575
  v3576.toNat
def k0_dev119 (d0 : Dev nD) : Nat :=
  let c0_i32_4834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4833 : BitVec 32 := 1#32
  let v3629 : BitVec 32 := Scalar.muli v48 c1_i32_4833
  let v3630 : BitVec 32 := Scalar.addi c0_i32_4834 v3629
  v3630.toNat
def k0_dev120 (d0 : Dev nD) : Nat :=
  let c0_i32_4846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4845 : BitVec 32 := 1#32
  let v3633 : BitVec 32 := Scalar.muli v67 c1_i32_4845
  let v3634 : BitVec 32 := Scalar.addi c0_i32_4846 v3633
  v3634.toNat
def k0_dev121 (d0 : Dev nD) : Nat :=
  let c0_i32_4913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4912 : BitVec 32 := 1#32
  let v3687 : BitVec 32 := Scalar.muli v67 c1_i32_4912
  let v3688 : BitVec 32 := Scalar.addi c0_i32_4913 v3687
  v3688.toNat
def k0_dev122 (d0 : Dev nD) : Nat :=
  let c0_i32_4925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4924 : BitVec 32 := 1#32
  let v3691 : BitVec 32 := Scalar.muli v48 c1_i32_4924
  let v3692 : BitVec 32 := Scalar.addi c0_i32_4925 v3691
  v3692.toNat
def k0_dev123 (d0 : Dev nD) : Nat :=
  let c0_i32_4983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_4982 : BitVec 32 := 1#32
  let v3737 : BitVec 32 := Scalar.muli v48 c1_i32_4982
  let v3738 : BitVec 32 := Scalar.addi c0_i32_4983 v3737
  v3738.toNat
def k0_dev124 (d0 : Dev nD) : Nat :=
  let c0_i32_4995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_4994 : BitVec 32 := 1#32
  let v3741 : BitVec 32 := Scalar.muli v67 c1_i32_4994
  let v3742 : BitVec 32 := Scalar.addi c0_i32_4995 v3741
  v3742.toNat
def k0_dev125 (d0 : Dev nD) : Nat :=
  let c0_i32_5053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5052 : BitVec 32 := 1#32
  let v3787 : BitVec 32 := Scalar.muli v67 c1_i32_5052
  let v3788 : BitVec 32 := Scalar.addi c0_i32_5053 v3787
  v3788.toNat
def k0_dev126 (d0 : Dev nD) : Nat :=
  let c0_i32_5065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5064 : BitVec 32 := 1#32
  let v3791 : BitVec 32 := Scalar.muli v48 c1_i32_5064
  let v3792 : BitVec 32 := Scalar.addi c0_i32_5065 v3791
  v3792.toNat
def k0_dev127 (d0 : Dev nD) : Nat :=
  let c0_i32_5123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5122 : BitVec 32 := 1#32
  let v3837 : BitVec 32 := Scalar.muli v48 c1_i32_5122
  let v3838 : BitVec 32 := Scalar.addi c0_i32_5123 v3837
  v3838.toNat
def k0_dev128 (d0 : Dev nD) : Nat :=
  let c0_i32_5135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5134 : BitVec 32 := 1#32
  let v3841 : BitVec 32 := Scalar.muli v67 c1_i32_5134
  let v3842 : BitVec 32 := Scalar.addi c0_i32_5135 v3841
  v3842.toNat
def k0_dev129 (d0 : Dev nD) : Nat :=
  let c0_i32_5193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5192 : BitVec 32 := 1#32
  let v3887 : BitVec 32 := Scalar.muli v67 c1_i32_5192
  let v3888 : BitVec 32 := Scalar.addi c0_i32_5193 v3887
  v3888.toNat
def k0_dev130 (d0 : Dev nD) : Nat :=
  let c0_i32_5205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5204 : BitVec 32 := 1#32
  let v3891 : BitVec 32 := Scalar.muli v48 c1_i32_5204
  let v3892 : BitVec 32 := Scalar.addi c0_i32_5205 v3891
  v3892.toNat
def k0_dev131 (d0 : Dev nD) : Nat :=
  let c0_i32_5263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5262 : BitVec 32 := 1#32
  let v3937 : BitVec 32 := Scalar.muli v48 c1_i32_5262
  let v3938 : BitVec 32 := Scalar.addi c0_i32_5263 v3937
  v3938.toNat
def k0_dev132 (d0 : Dev nD) : Nat :=
  let c0_i32_5275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5274 : BitVec 32 := 1#32
  let v3941 : BitVec 32 := Scalar.muli v67 c1_i32_5274
  let v3942 : BitVec 32 := Scalar.addi c0_i32_5275 v3941
  v3942.toNat
def k0_dev133 (d0 : Dev nD) : Nat :=
  let c0_i32_5333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5332 : BitVec 32 := 1#32
  let v3987 : BitVec 32 := Scalar.muli v67 c1_i32_5332
  let v3988 : BitVec 32 := Scalar.addi c0_i32_5333 v3987
  v3988.toNat
def k0_dev134 (d0 : Dev nD) : Nat :=
  let c0_i32_5345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5344 : BitVec 32 := 1#32
  let v3991 : BitVec 32 := Scalar.muli v48 c1_i32_5344
  let v3992 : BitVec 32 := Scalar.addi c0_i32_5345 v3991
  v3992.toNat
def k0_dev135 (d0 : Dev nD) : Nat :=
  let c0_i32_5403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5402 : BitVec 32 := 1#32
  let v4037 : BitVec 32 := Scalar.muli v48 c1_i32_5402
  let v4038 : BitVec 32 := Scalar.addi c0_i32_5403 v4037
  v4038.toNat
def k0_dev136 (d0 : Dev nD) : Nat :=
  let c0_i32_5415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5414 : BitVec 32 := 1#32
  let v4041 : BitVec 32 := Scalar.muli v67 c1_i32_5414
  let v4042 : BitVec 32 := Scalar.addi c0_i32_5415 v4041
  v4042.toNat
def k0_dev137 (d0 : Dev nD) : Nat :=
  let c0_i32_5473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5472 : BitVec 32 := 1#32
  let v4087 : BitVec 32 := Scalar.muli v67 c1_i32_5472
  let v4088 : BitVec 32 := Scalar.addi c0_i32_5473 v4087
  v4088.toNat
def k0_dev138 (d0 : Dev nD) : Nat :=
  let c0_i32_5485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5484 : BitVec 32 := 1#32
  let v4091 : BitVec 32 := Scalar.muli v48 c1_i32_5484
  let v4092 : BitVec 32 := Scalar.addi c0_i32_5485 v4091
  v4092.toNat
def k0_dev139 (d0 : Dev nD) : Nat :=
  let c0_i32_5543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5542 : BitVec 32 := 1#32
  let v4137 : BitVec 32 := Scalar.muli v48 c1_i32_5542
  let v4138 : BitVec 32 := Scalar.addi c0_i32_5543 v4137
  v4138.toNat
def k0_dev140 (d0 : Dev nD) : Nat :=
  let c0_i32_5555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5554 : BitVec 32 := 1#32
  let v4141 : BitVec 32 := Scalar.muli v67 c1_i32_5554
  let v4142 : BitVec 32 := Scalar.addi c0_i32_5555 v4141
  v4142.toNat
def k0_dev141 (d0 : Dev nD) : Nat :=
  let c0_i32_5613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5612 : BitVec 32 := 1#32
  let v4187 : BitVec 32 := Scalar.muli v67 c1_i32_5612
  let v4188 : BitVec 32 := Scalar.addi c0_i32_5613 v4187
  v4188.toNat
def k0_dev142 (d0 : Dev nD) : Nat :=
  let c0_i32_5625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5624 : BitVec 32 := 1#32
  let v4191 : BitVec 32 := Scalar.muli v48 c1_i32_5624
  let v4192 : BitVec 32 := Scalar.addi c0_i32_5625 v4191
  v4192.toNat
def k0_dev143 (d0 : Dev nD) : Nat :=
  let c0_i32_5683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5682 : BitVec 32 := 1#32
  let v4237 : BitVec 32 := Scalar.muli v48 c1_i32_5682
  let v4238 : BitVec 32 := Scalar.addi c0_i32_5683 v4237
  v4238.toNat
def k0_dev144 (d0 : Dev nD) : Nat :=
  let c0_i32_5695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5694 : BitVec 32 := 1#32
  let v4241 : BitVec 32 := Scalar.muli v67 c1_i32_5694
  let v4242 : BitVec 32 := Scalar.addi c0_i32_5695 v4241
  v4242.toNat
def k0_dev145 (d0 : Dev nD) : Nat :=
  let c0_i32_5753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5752 : BitVec 32 := 1#32
  let v4287 : BitVec 32 := Scalar.muli v67 c1_i32_5752
  let v4288 : BitVec 32 := Scalar.addi c0_i32_5753 v4287
  v4288.toNat
def k0_dev146 (d0 : Dev nD) : Nat :=
  let c0_i32_5765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5764 : BitVec 32 := 1#32
  let v4291 : BitVec 32 := Scalar.muli v48 c1_i32_5764
  let v4292 : BitVec 32 := Scalar.addi c0_i32_5765 v4291
  v4292.toNat
def k0_dev147 (d0 : Dev nD) : Nat :=
  let c0_i32_5823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5822 : BitVec 32 := 1#32
  let v4337 : BitVec 32 := Scalar.muli v48 c1_i32_5822
  let v4338 : BitVec 32 := Scalar.addi c0_i32_5823 v4337
  v4338.toNat
def k0_dev148 (d0 : Dev nD) : Nat :=
  let c0_i32_5835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5834 : BitVec 32 := 1#32
  let v4341 : BitVec 32 := Scalar.muli v67 c1_i32_5834
  let v4342 : BitVec 32 := Scalar.addi c0_i32_5835 v4341
  v4342.toNat
def k0_dev149 (d0 : Dev nD) : Nat :=
  let c0_i32_5893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5892 : BitVec 32 := 1#32
  let v4387 : BitVec 32 := Scalar.muli v67 c1_i32_5892
  let v4388 : BitVec 32 := Scalar.addi c0_i32_5893 v4387
  v4388.toNat
def k0_dev150 (d0 : Dev nD) : Nat :=
  let c0_i32_5905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5904 : BitVec 32 := 1#32
  let v4391 : BitVec 32 := Scalar.muli v48 c1_i32_5904
  let v4392 : BitVec 32 := Scalar.addi c0_i32_5905 v4391
  v4392.toNat
def k0_dev151 (d0 : Dev nD) : Nat :=
  let c0_i32_5963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_5962 : BitVec 32 := 1#32
  let v4437 : BitVec 32 := Scalar.muli v48 c1_i32_5962
  let v4438 : BitVec 32 := Scalar.addi c0_i32_5963 v4437
  v4438.toNat
def k0_dev152 (d0 : Dev nD) : Nat :=
  let c0_i32_5975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_5974 : BitVec 32 := 1#32
  let v4441 : BitVec 32 := Scalar.muli v67 c1_i32_5974
  let v4442 : BitVec 32 := Scalar.addi c0_i32_5975 v4441
  v4442.toNat
def k0_dev153 (d0 : Dev nD) : Nat :=
  let c0_i32_6033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6032 : BitVec 32 := 1#32
  let v4487 : BitVec 32 := Scalar.muli v67 c1_i32_6032
  let v4488 : BitVec 32 := Scalar.addi c0_i32_6033 v4487
  v4488.toNat
def k0_dev154 (d0 : Dev nD) : Nat :=
  let c0_i32_6045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6044 : BitVec 32 := 1#32
  let v4491 : BitVec 32 := Scalar.muli v48 c1_i32_6044
  let v4492 : BitVec 32 := Scalar.addi c0_i32_6045 v4491
  v4492.toNat
def k0_dev155 (d0 : Dev nD) : Nat :=
  let c0_i32_6103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6102 : BitVec 32 := 1#32
  let v4537 : BitVec 32 := Scalar.muli v48 c1_i32_6102
  let v4538 : BitVec 32 := Scalar.addi c0_i32_6103 v4537
  v4538.toNat
def k0_dev156 (d0 : Dev nD) : Nat :=
  let c0_i32_6115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6114 : BitVec 32 := 1#32
  let v4541 : BitVec 32 := Scalar.muli v67 c1_i32_6114
  let v4542 : BitVec 32 := Scalar.addi c0_i32_6115 v4541
  v4542.toNat
def k0_dev157 (d0 : Dev nD) : Nat :=
  let c0_i32_6173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6172 : BitVec 32 := 1#32
  let v4587 : BitVec 32 := Scalar.muli v67 c1_i32_6172
  let v4588 : BitVec 32 := Scalar.addi c0_i32_6173 v4587
  v4588.toNat
def k0_dev158 (d0 : Dev nD) : Nat :=
  let c0_i32_6185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6184 : BitVec 32 := 1#32
  let v4591 : BitVec 32 := Scalar.muli v48 c1_i32_6184
  let v4592 : BitVec 32 := Scalar.addi c0_i32_6185 v4591
  v4592.toNat
def k0_dev159 (d0 : Dev nD) : Nat :=
  let c0_i32_6243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6242 : BitVec 32 := 1#32
  let v4637 : BitVec 32 := Scalar.muli v48 c1_i32_6242
  let v4638 : BitVec 32 := Scalar.addi c0_i32_6243 v4637
  v4638.toNat
def k0_dev160 (d0 : Dev nD) : Nat :=
  let c0_i32_6255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6254 : BitVec 32 := 1#32
  let v4641 : BitVec 32 := Scalar.muli v67 c1_i32_6254
  let v4642 : BitVec 32 := Scalar.addi c0_i32_6255 v4641
  v4642.toNat
def k0_dev161 (d0 : Dev nD) : Nat :=
  let c0_i32_6313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6312 : BitVec 32 := 1#32
  let v4687 : BitVec 32 := Scalar.muli v67 c1_i32_6312
  let v4688 : BitVec 32 := Scalar.addi c0_i32_6313 v4687
  v4688.toNat
def k0_dev162 (d0 : Dev nD) : Nat :=
  let c0_i32_6325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6324 : BitVec 32 := 1#32
  let v4691 : BitVec 32 := Scalar.muli v48 c1_i32_6324
  let v4692 : BitVec 32 := Scalar.addi c0_i32_6325 v4691
  v4692.toNat
def k0_dev163 (d0 : Dev nD) : Nat :=
  let c0_i32_6383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6382 : BitVec 32 := 1#32
  let v4737 : BitVec 32 := Scalar.muli v48 c1_i32_6382
  let v4738 : BitVec 32 := Scalar.addi c0_i32_6383 v4737
  v4738.toNat
def k0_dev164 (d0 : Dev nD) : Nat :=
  let c0_i32_6395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6394 : BitVec 32 := 1#32
  let v4741 : BitVec 32 := Scalar.muli v67 c1_i32_6394
  let v4742 : BitVec 32 := Scalar.addi c0_i32_6395 v4741
  v4742.toNat
def k0_dev165 (d0 : Dev nD) : Nat :=
  let c0_i32_6453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6452 : BitVec 32 := 1#32
  let v4787 : BitVec 32 := Scalar.muli v67 c1_i32_6452
  let v4788 : BitVec 32 := Scalar.addi c0_i32_6453 v4787
  v4788.toNat
def k0_dev166 (d0 : Dev nD) : Nat :=
  let c0_i32_6465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6464 : BitVec 32 := 1#32
  let v4791 : BitVec 32 := Scalar.muli v48 c1_i32_6464
  let v4792 : BitVec 32 := Scalar.addi c0_i32_6465 v4791
  v4792.toNat
def k0_dev167 (d0 : Dev nD) : Nat :=
  let c0_i32_6523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6522 : BitVec 32 := 1#32
  let v4837 : BitVec 32 := Scalar.muli v48 c1_i32_6522
  let v4838 : BitVec 32 := Scalar.addi c0_i32_6523 v4837
  v4838.toNat
def k0_dev168 (d0 : Dev nD) : Nat :=
  let c0_i32_6535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6534 : BitVec 32 := 1#32
  let v4841 : BitVec 32 := Scalar.muli v67 c1_i32_6534
  let v4842 : BitVec 32 := Scalar.addi c0_i32_6535 v4841
  v4842.toNat
def k0_dev169 (d0 : Dev nD) : Nat :=
  let c0_i32_6593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6592 : BitVec 32 := 1#32
  let v4887 : BitVec 32 := Scalar.muli v67 c1_i32_6592
  let v4888 : BitVec 32 := Scalar.addi c0_i32_6593 v4887
  v4888.toNat
def k0_dev170 (d0 : Dev nD) : Nat :=
  let c0_i32_6605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6604 : BitVec 32 := 1#32
  let v4891 : BitVec 32 := Scalar.muli v48 c1_i32_6604
  let v4892 : BitVec 32 := Scalar.addi c0_i32_6605 v4891
  v4892.toNat
def k0_dev171 (d0 : Dev nD) : Nat :=
  let c0_i32_6663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6662 : BitVec 32 := 1#32
  let v4937 : BitVec 32 := Scalar.muli v48 c1_i32_6662
  let v4938 : BitVec 32 := Scalar.addi c0_i32_6663 v4937
  v4938.toNat
def k0_dev172 (d0 : Dev nD) : Nat :=
  let c0_i32_6675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6674 : BitVec 32 := 1#32
  let v4941 : BitVec 32 := Scalar.muli v67 c1_i32_6674
  let v4942 : BitVec 32 := Scalar.addi c0_i32_6675 v4941
  v4942.toNat
def k0_dev173 (d0 : Dev nD) : Nat :=
  let c0_i32_6733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6732 : BitVec 32 := 1#32
  let v4987 : BitVec 32 := Scalar.muli v67 c1_i32_6732
  let v4988 : BitVec 32 := Scalar.addi c0_i32_6733 v4987
  v4988.toNat
def k0_dev174 (d0 : Dev nD) : Nat :=
  let c0_i32_6745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6744 : BitVec 32 := 1#32
  let v4991 : BitVec 32 := Scalar.muli v48 c1_i32_6744
  let v4992 : BitVec 32 := Scalar.addi c0_i32_6745 v4991
  v4992.toNat
def k0_dev175 (d0 : Dev nD) : Nat :=
  let c0_i32_6803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6802 : BitVec 32 := 1#32
  let v5037 : BitVec 32 := Scalar.muli v48 c1_i32_6802
  let v5038 : BitVec 32 := Scalar.addi c0_i32_6803 v5037
  v5038.toNat
def k0_dev176 (d0 : Dev nD) : Nat :=
  let c0_i32_6815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6814 : BitVec 32 := 1#32
  let v5041 : BitVec 32 := Scalar.muli v67 c1_i32_6814
  let v5042 : BitVec 32 := Scalar.addi c0_i32_6815 v5041
  v5042.toNat
def k0_dev177 (d0 : Dev nD) : Nat :=
  let c0_i32_6873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6872 : BitVec 32 := 1#32
  let v5087 : BitVec 32 := Scalar.muli v67 c1_i32_6872
  let v5088 : BitVec 32 := Scalar.addi c0_i32_6873 v5087
  v5088.toNat
def k0_dev178 (d0 : Dev nD) : Nat :=
  let c0_i32_6885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6884 : BitVec 32 := 1#32
  let v5091 : BitVec 32 := Scalar.muli v48 c1_i32_6884
  let v5092 : BitVec 32 := Scalar.addi c0_i32_6885 v5091
  v5092.toNat
def k0_dev179 (d0 : Dev nD) : Nat :=
  let c0_i32_6943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_6942 : BitVec 32 := 1#32
  let v5137 : BitVec 32 := Scalar.muli v48 c1_i32_6942
  let v5138 : BitVec 32 := Scalar.addi c0_i32_6943 v5137
  v5138.toNat
def k0_dev180 (d0 : Dev nD) : Nat :=
  let c0_i32_6955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_6954 : BitVec 32 := 1#32
  let v5141 : BitVec 32 := Scalar.muli v67 c1_i32_6954
  let v5142 : BitVec 32 := Scalar.addi c0_i32_6955 v5141
  v5142.toNat
def k0_dev181 (d0 : Dev nD) : Nat :=
  let c0_i32_7013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7012 : BitVec 32 := 1#32
  let v5187 : BitVec 32 := Scalar.muli v67 c1_i32_7012
  let v5188 : BitVec 32 := Scalar.addi c0_i32_7013 v5187
  v5188.toNat
def k0_dev182 (d0 : Dev nD) : Nat :=
  let c0_i32_7025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7024 : BitVec 32 := 1#32
  let v5191 : BitVec 32 := Scalar.muli v48 c1_i32_7024
  let v5192 : BitVec 32 := Scalar.addi c0_i32_7025 v5191
  v5192.toNat
def k0_dev183 (d0 : Dev nD) : Nat :=
  let c0_i32_7083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7082 : BitVec 32 := 1#32
  let v5237 : BitVec 32 := Scalar.muli v48 c1_i32_7082
  let v5238 : BitVec 32 := Scalar.addi c0_i32_7083 v5237
  v5238.toNat
def k0_dev184 (d0 : Dev nD) : Nat :=
  let c0_i32_7095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7094 : BitVec 32 := 1#32
  let v5241 : BitVec 32 := Scalar.muli v67 c1_i32_7094
  let v5242 : BitVec 32 := Scalar.addi c0_i32_7095 v5241
  v5242.toNat
def k0_dev185 (d0 : Dev nD) : Nat :=
  let c0_i32_7153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7152 : BitVec 32 := 1#32
  let v5287 : BitVec 32 := Scalar.muli v67 c1_i32_7152
  let v5288 : BitVec 32 := Scalar.addi c0_i32_7153 v5287
  v5288.toNat
def k0_dev186 (d0 : Dev nD) : Nat :=
  let c0_i32_7165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7164 : BitVec 32 := 1#32
  let v5291 : BitVec 32 := Scalar.muli v48 c1_i32_7164
  let v5292 : BitVec 32 := Scalar.addi c0_i32_7165 v5291
  v5292.toNat
def k0_dev187 (d0 : Dev nD) : Nat :=
  let c0_i32_7223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7222 : BitVec 32 := 1#32
  let v5337 : BitVec 32 := Scalar.muli v48 c1_i32_7222
  let v5338 : BitVec 32 := Scalar.addi c0_i32_7223 v5337
  v5338.toNat
def k0_dev188 (d0 : Dev nD) : Nat :=
  let c0_i32_7235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7234 : BitVec 32 := 1#32
  let v5341 : BitVec 32 := Scalar.muli v67 c1_i32_7234
  let v5342 : BitVec 32 := Scalar.addi c0_i32_7235 v5341
  v5342.toNat
def k0_dev189 (d0 : Dev nD) : Nat :=
  let c0_i32_7293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7292 : BitVec 32 := 1#32
  let v5387 : BitVec 32 := Scalar.muli v67 c1_i32_7292
  let v5388 : BitVec 32 := Scalar.addi c0_i32_7293 v5387
  v5388.toNat
def k0_dev190 (d0 : Dev nD) : Nat :=
  let c0_i32_7305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7304 : BitVec 32 := 1#32
  let v5391 : BitVec 32 := Scalar.muli v48 c1_i32_7304
  let v5392 : BitVec 32 := Scalar.addi c0_i32_7305 v5391
  v5392.toNat
def k0_dev191 (d0 : Dev nD) : Nat :=
  let c0_i32_7363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7362 : BitVec 32 := 1#32
  let v5437 : BitVec 32 := Scalar.muli v48 c1_i32_7362
  let v5438 : BitVec 32 := Scalar.addi c0_i32_7363 v5437
  v5438.toNat
def k0_dev192 (d0 : Dev nD) : Nat :=
  let c0_i32_7375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7374 : BitVec 32 := 1#32
  let v5441 : BitVec 32 := Scalar.muli v67 c1_i32_7374
  let v5442 : BitVec 32 := Scalar.addi c0_i32_7375 v5441
  v5442.toNat
def k0_dev193 (d0 : Dev nD) : Nat :=
  let c0_i32_7433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7432 : BitVec 32 := 1#32
  let v5487 : BitVec 32 := Scalar.muli v67 c1_i32_7432
  let v5488 : BitVec 32 := Scalar.addi c0_i32_7433 v5487
  v5488.toNat
def k0_dev194 (d0 : Dev nD) : Nat :=
  let c0_i32_7445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7444 : BitVec 32 := 1#32
  let v5491 : BitVec 32 := Scalar.muli v48 c1_i32_7444
  let v5492 : BitVec 32 := Scalar.addi c0_i32_7445 v5491
  v5492.toNat
def k0_dev195 (d0 : Dev nD) : Nat :=
  let c0_i32_7503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7502 : BitVec 32 := 1#32
  let v5537 : BitVec 32 := Scalar.muli v48 c1_i32_7502
  let v5538 : BitVec 32 := Scalar.addi c0_i32_7503 v5537
  v5538.toNat
def k0_dev196 (d0 : Dev nD) : Nat :=
  let c0_i32_7515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7514 : BitVec 32 := 1#32
  let v5541 : BitVec 32 := Scalar.muli v67 c1_i32_7514
  let v5542 : BitVec 32 := Scalar.addi c0_i32_7515 v5541
  v5542.toNat
def k0_dev197 (d0 : Dev nD) : Nat :=
  let c0_i32_7573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7572 : BitVec 32 := 1#32
  let v5587 : BitVec 32 := Scalar.muli v67 c1_i32_7572
  let v5588 : BitVec 32 := Scalar.addi c0_i32_7573 v5587
  v5588.toNat
def k0_dev198 (d0 : Dev nD) : Nat :=
  let c0_i32_7585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7584 : BitVec 32 := 1#32
  let v5591 : BitVec 32 := Scalar.muli v48 c1_i32_7584
  let v5592 : BitVec 32 := Scalar.addi c0_i32_7585 v5591
  v5592.toNat
def k0_dev199 (d0 : Dev nD) : Nat :=
  let c0_i32_7643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7642 : BitVec 32 := 1#32
  let v5637 : BitVec 32 := Scalar.muli v48 c1_i32_7642
  let v5638 : BitVec 32 := Scalar.addi c0_i32_7643 v5637
  v5638.toNat
def k0_dev200 (d0 : Dev nD) : Nat :=
  let c0_i32_7655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7654 : BitVec 32 := 1#32
  let v5641 : BitVec 32 := Scalar.muli v67 c1_i32_7654
  let v5642 : BitVec 32 := Scalar.addi c0_i32_7655 v5641
  v5642.toNat
def k0_dev201 (d0 : Dev nD) : Nat :=
  let c0_i32_7713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7712 : BitVec 32 := 1#32
  let v5687 : BitVec 32 := Scalar.muli v67 c1_i32_7712
  let v5688 : BitVec 32 := Scalar.addi c0_i32_7713 v5687
  v5688.toNat
def k0_dev202 (d0 : Dev nD) : Nat :=
  let c0_i32_7725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7724 : BitVec 32 := 1#32
  let v5691 : BitVec 32 := Scalar.muli v48 c1_i32_7724
  let v5692 : BitVec 32 := Scalar.addi c0_i32_7725 v5691
  v5692.toNat
def k0_dev203 (d0 : Dev nD) : Nat :=
  let c0_i32_7783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7782 : BitVec 32 := 1#32
  let v5737 : BitVec 32 := Scalar.muli v48 c1_i32_7782
  let v5738 : BitVec 32 := Scalar.addi c0_i32_7783 v5737
  v5738.toNat
def k0_dev204 (d0 : Dev nD) : Nat :=
  let c0_i32_7795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7794 : BitVec 32 := 1#32
  let v5741 : BitVec 32 := Scalar.muli v67 c1_i32_7794
  let v5742 : BitVec 32 := Scalar.addi c0_i32_7795 v5741
  v5742.toNat
def k0_dev205 (d0 : Dev nD) : Nat :=
  let c0_i32_7853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7852 : BitVec 32 := 1#32
  let v5787 : BitVec 32 := Scalar.muli v67 c1_i32_7852
  let v5788 : BitVec 32 := Scalar.addi c0_i32_7853 v5787
  v5788.toNat
def k0_dev206 (d0 : Dev nD) : Nat :=
  let c0_i32_7865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7864 : BitVec 32 := 1#32
  let v5791 : BitVec 32 := Scalar.muli v48 c1_i32_7864
  let v5792 : BitVec 32 := Scalar.addi c0_i32_7865 v5791
  v5792.toNat
def k0_dev207 (d0 : Dev nD) : Nat :=
  let c0_i32_7923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_7922 : BitVec 32 := 1#32
  let v5837 : BitVec 32 := Scalar.muli v48 c1_i32_7922
  let v5838 : BitVec 32 := Scalar.addi c0_i32_7923 v5837
  v5838.toNat
def k0_dev208 (d0 : Dev nD) : Nat :=
  let c0_i32_7935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7934 : BitVec 32 := 1#32
  let v5841 : BitVec 32 := Scalar.muli v67 c1_i32_7934
  let v5842 : BitVec 32 := Scalar.addi c0_i32_7935 v5841
  v5842.toNat
def k0_dev209 (d0 : Dev nD) : Nat :=
  let c0_i32_7993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_7992 : BitVec 32 := 1#32
  let v5887 : BitVec 32 := Scalar.muli v67 c1_i32_7992
  let v5888 : BitVec 32 := Scalar.addi c0_i32_7993 v5887
  v5888.toNat
def k0_dev210 (d0 : Dev nD) : Nat :=
  let c0_i32_8005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8004 : BitVec 32 := 1#32
  let v5891 : BitVec 32 := Scalar.muli v48 c1_i32_8004
  let v5892 : BitVec 32 := Scalar.addi c0_i32_8005 v5891
  v5892.toNat
def k0_dev211 (d0 : Dev nD) : Nat :=
  let c0_i32_8063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8062 : BitVec 32 := 1#32
  let v5937 : BitVec 32 := Scalar.muli v48 c1_i32_8062
  let v5938 : BitVec 32 := Scalar.addi c0_i32_8063 v5937
  v5938.toNat
def k0_dev212 (d0 : Dev nD) : Nat :=
  let c0_i32_8075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8074 : BitVec 32 := 1#32
  let v5941 : BitVec 32 := Scalar.muli v67 c1_i32_8074
  let v5942 : BitVec 32 := Scalar.addi c0_i32_8075 v5941
  v5942.toNat
def k0_dev213 (d0 : Dev nD) : Nat :=
  let c0_i32_8133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8132 : BitVec 32 := 1#32
  let v5987 : BitVec 32 := Scalar.muli v67 c1_i32_8132
  let v5988 : BitVec 32 := Scalar.addi c0_i32_8133 v5987
  v5988.toNat
def k0_dev214 (d0 : Dev nD) : Nat :=
  let c0_i32_8145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8144 : BitVec 32 := 1#32
  let v5991 : BitVec 32 := Scalar.muli v48 c1_i32_8144
  let v5992 : BitVec 32 := Scalar.addi c0_i32_8145 v5991
  v5992.toNat
def k0_dev215 (d0 : Dev nD) : Nat :=
  let c0_i32_8203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8202 : BitVec 32 := 1#32
  let v6037 : BitVec 32 := Scalar.muli v48 c1_i32_8202
  let v6038 : BitVec 32 := Scalar.addi c0_i32_8203 v6037
  v6038.toNat
def k0_dev216 (d0 : Dev nD) : Nat :=
  let c0_i32_8215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8214 : BitVec 32 := 1#32
  let v6041 : BitVec 32 := Scalar.muli v67 c1_i32_8214
  let v6042 : BitVec 32 := Scalar.addi c0_i32_8215 v6041
  v6042.toNat
def k0_dev217 (d0 : Dev nD) : Nat :=
  let c0_i32_8273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8272 : BitVec 32 := 1#32
  let v6087 : BitVec 32 := Scalar.muli v67 c1_i32_8272
  let v6088 : BitVec 32 := Scalar.addi c0_i32_8273 v6087
  v6088.toNat
def k0_dev218 (d0 : Dev nD) : Nat :=
  let c0_i32_8285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8284 : BitVec 32 := 1#32
  let v6091 : BitVec 32 := Scalar.muli v48 c1_i32_8284
  let v6092 : BitVec 32 := Scalar.addi c0_i32_8285 v6091
  v6092.toNat
def k0_dev219 (d0 : Dev nD) : Nat :=
  let c0_i32_8343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8342 : BitVec 32 := 1#32
  let v6137 : BitVec 32 := Scalar.muli v48 c1_i32_8342
  let v6138 : BitVec 32 := Scalar.addi c0_i32_8343 v6137
  v6138.toNat
def k0_dev220 (d0 : Dev nD) : Nat :=
  let c0_i32_8355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8354 : BitVec 32 := 1#32
  let v6141 : BitVec 32 := Scalar.muli v67 c1_i32_8354
  let v6142 : BitVec 32 := Scalar.addi c0_i32_8355 v6141
  v6142.toNat
def k0_dev221 (d0 : Dev nD) : Nat :=
  let c0_i32_8413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8412 : BitVec 32 := 1#32
  let v6187 : BitVec 32 := Scalar.muli v67 c1_i32_8412
  let v6188 : BitVec 32 := Scalar.addi c0_i32_8413 v6187
  v6188.toNat
def k0_dev222 (d0 : Dev nD) : Nat :=
  let c0_i32_8425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8424 : BitVec 32 := 1#32
  let v6191 : BitVec 32 := Scalar.muli v48 c1_i32_8424
  let v6192 : BitVec 32 := Scalar.addi c0_i32_8425 v6191
  v6192.toNat
def k0_dev223 (d0 : Dev nD) : Nat :=
  let c0_i32_8483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8482 : BitVec 32 := 1#32
  let v6237 : BitVec 32 := Scalar.muli v48 c1_i32_8482
  let v6238 : BitVec 32 := Scalar.addi c0_i32_8483 v6237
  v6238.toNat
def k0_dev224 (d0 : Dev nD) : Nat :=
  let c0_i32_8495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8494 : BitVec 32 := 1#32
  let v6241 : BitVec 32 := Scalar.muli v67 c1_i32_8494
  let v6242 : BitVec 32 := Scalar.addi c0_i32_8495 v6241
  v6242.toNat
def k0_dev225 (d0 : Dev nD) : Nat :=
  let c0_i32_8553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8552 : BitVec 32 := 1#32
  let v6287 : BitVec 32 := Scalar.muli v67 c1_i32_8552
  let v6288 : BitVec 32 := Scalar.addi c0_i32_8553 v6287
  v6288.toNat
def k0_dev226 (d0 : Dev nD) : Nat :=
  let c0_i32_8565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8564 : BitVec 32 := 1#32
  let v6291 : BitVec 32 := Scalar.muli v48 c1_i32_8564
  let v6292 : BitVec 32 := Scalar.addi c0_i32_8565 v6291
  v6292.toNat
def k0_dev227 (d0 : Dev nD) : Nat :=
  let c0_i32_8631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8630 : BitVec 32 := 1#32
  let v6337 : BitVec 32 := Scalar.muli v67 c1_i32_8630
  let v6338 : BitVec 32 := Scalar.addi c0_i32_8631 v6337
  v6338.toNat
def k0_dev228 (d0 : Dev nD) : Nat :=
  let c0_i32_8697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8696 : BitVec 32 := 1#32
  let v6383 : BitVec 32 := Scalar.muli v48 c1_i32_8696
  let v6384 : BitVec 32 := Scalar.addi c0_i32_8697 v6383
  v6384.toNat
def k0_dev229 (d0 : Dev nD) : Nat :=
  let c0_i32_8763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_21 : BitVec 32 := 1#32
  let v49 : BitVec 32 := Scalar.addi v29 c1_i32_21
  let c32_i32_22 : BitVec 32 := 32#32
  let v50 : BitVec 32 := Scalar.addi v49 c32_i32_22
  let c16_i32_23 : BitVec 32 := 16#32
  let v51 : BitVec 32 := Scalar.remsi v50 c16_i32_23
  let c4_i32_24 : BitVec 32 := 4#32
  let v52 : BitVec 1 := Scalar.cmpi .slt v51 c4_i32_24
  let c4_i32_25 : BitVec 32 := 4#32
  let v53 : BitVec 32 := Scalar.muli c4_i32_25 v51
  let c8_i32_26 : BitVec 32 := 8#32
  let v54 : BitVec 1 := Scalar.cmpi .slt v51 c8_i32_26
  let c1_i32_29 : BitVec 32 := 1#32
  let c4_i32_28 : BitVec 32 := 4#32
  let c7_i32_27 : BitVec 32 := 7#32
  let v55 : BitVec 32 := Scalar.subi c7_i32_27 v51
  let v56 : BitVec 32 := Scalar.muli c4_i32_28 v55
  let v57 : BitVec 32 := Scalar.addi c1_i32_29 v56
  let c12_i32_30 : BitVec 32 := 12#32
  let v58 : BitVec 1 := Scalar.cmpi .slt v51 c12_i32_30
  let c2_i32_33 : BitVec 32 := 2#32
  let c4_i32_32 : BitVec 32 := 4#32
  let c8_i32_31 : BitVec 32 := 8#32
  let v59 : BitVec 32 := Scalar.subi v51 c8_i32_31
  let v60 : BitVec 32 := Scalar.muli c4_i32_32 v59
  let v61 : BitVec 32 := Scalar.addi c2_i32_33 v60
  let c3_i32_36 : BitVec 32 := 3#32
  let c4_i32_35 : BitVec 32 := 4#32
  let c15_i32_34 : BitVec 32 := 15#32
  let v62 : BitVec 32 := Scalar.subi c15_i32_34 v51
  let v63 : BitVec 32 := Scalar.muli c4_i32_35 v62
  let v64 : BitVec 32 := Scalar.addi c3_i32_36 v63
  let v65 : BitVec 32 := Scalar.select v58 v61 v64
  let v66 : BitVec 32 := Scalar.select v54 v57 v65
  let v67 : BitVec 32 := Scalar.select v52 v53 v66
  let c1_i32_8762 : BitVec 32 := 1#32
  let v6429 : BitVec 32 := Scalar.muli v67 c1_i32_8762
  let v6430 : BitVec 32 := Scalar.addi c0_i32_8763 v6429
  v6430.toNat
def k0_dev230 (d0 : Dev nD) : Nat :=
  let c0_i32_8829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c4_i32_10 : BitVec 32 := 4#32
  let v33 : BitVec 1 := Scalar.cmpi .slt v32 c4_i32_10
  let c4_i32_11 : BitVec 32 := 4#32
  let v34 : BitVec 32 := Scalar.muli c4_i32_11 v32
  let c8_i32_12 : BitVec 32 := 8#32
  let v35 : BitVec 1 := Scalar.cmpi .slt v32 c8_i32_12
  let c1_i32_15 : BitVec 32 := 1#32
  let c4_i32_14 : BitVec 32 := 4#32
  let c7_i32_13 : BitVec 32 := 7#32
  let v36 : BitVec 32 := Scalar.subi c7_i32_13 v32
  let v37 : BitVec 32 := Scalar.muli c4_i32_14 v36
  let v38 : BitVec 32 := Scalar.addi c1_i32_15 v37
  let c12_i32 : BitVec 32 := 12#32
  let v39 : BitVec 1 := Scalar.cmpi .slt v32 c12_i32
  let c2_i32_18 : BitVec 32 := 2#32
  let c4_i32_17 : BitVec 32 := 4#32
  let c8_i32_16 : BitVec 32 := 8#32
  let v40 : BitVec 32 := Scalar.subi v32 c8_i32_16
  let v41 : BitVec 32 := Scalar.muli c4_i32_17 v40
  let v42 : BitVec 32 := Scalar.addi c2_i32_18 v41
  let c3_i32 : BitVec 32 := 3#32
  let c4_i32_20 : BitVec 32 := 4#32
  let c15_i32_19 : BitVec 32 := 15#32
  let v43 : BitVec 32 := Scalar.subi c15_i32_19 v32
  let v44 : BitVec 32 := Scalar.muli c4_i32_20 v43
  let v45 : BitVec 32 := Scalar.addi c3_i32 v44
  let v46 : BitVec 32 := Scalar.select v39 v42 v45
  let v47 : BitVec 32 := Scalar.select v35 v38 v46
  let v48 : BitVec 32 := Scalar.select v33 v34 v47
  let c1_i32_8828 : BitVec 32 := 1#32
  let v6475 : BitVec 32 := Scalar.muli v48 c1_i32_8828
  let v6476 : BitVec 32 := Scalar.addi c0_i32_8829 v6475
  v6476.toNat
-- ==== ReferenceIdeal.lean ====
abbrev S65536x1024 : Shape := ⟨2, ![65536, 1024]⟩
abbrev S16x4096x1024 : Shape := ⟨3, ![16, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x4096x1024, .f32⟩
  | .hbm, ⟨2, _⟩ => ⟨S_, .f32⟩
  | .hbm, ⟨3, _⟩ => ⟨S4096x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
# The kernel as a chain of hops

The printed kernel is one long list of statements. It runs thirty hops of four streams: every hop of
every stream is the same few operations at other slots. This module writes one hop as a program in the
hop's number and the stream, and proves that the printed body is the fetches before the barrier, the
barrier, the hops one after the other, and the four closing steps.
-/
module

public import proofs.«01_k».proof.Proof.Gen.KernelIdeal.Frame

@[expose] public section

noncomputable section

namespace Cert.RingProof

open Cert.KernelIdeal Cert.KernelIdeal.Gen

open Idealize.ShloMosaic Idealize.ShloMosaic.TcCoe
open Idealize.SL Idealize.SL.Sem

variable {F : FTy → Type} [FloatOps F]

/-! ## Places -/

theorem inbC : ∀ st p : Fin 4, ∀ a, (![st.val, p.val, 0, 0] : Fin 4 → Nat) a + S1x1x64x1024.size a ≤ S4x4x64x1024.size a := by decide
theorem inbB : ∀ (st : Fin 4) (p : Fin 2), ∀ a, (![st.val, p.val, 0, 0] : Fin 4 → Nat) a + S1x1x64x1024.size a ≤ S4x2x64x1024.size a := by decide
theorem inb1 : ∀ st : Fin 4, ∀ a, (![st.val] : Fin 1 → Nat) a + S1.size a ≤ S4.size a := by decide
theorem inb3 : ∀ (st : Fin 4) (p : Fin 3), ∀ a, (![st.val, p.val] : Fin 2 → Nat) a + S1x1.size a ≤ S4x3.size a := by decide

/-- The stream's place inside a chunk of 256 rows. -/
def offN (st : Fin 4) : ℕ := (st.val % 2) * 128 + (st.val / 2) * 64

/-- That place as the word the kernel adds. -/
def offW (st : Fin 4) : BitVec 32 := BitVec.ofNat 32 (offN st)

/-- The ring displacement the kernel adds: `a - h` on the streams sent to the right, `h - a` on those sent to the left. -/
def dirW (st : Fin 4) (a h : ℕ) : BitVec 32 :=
  if st.val % 2 = 0 then BitVec.ofNat 32 a - BitVec.ofNat 32 (h % 32) else BitVec.ofNat 32 (h % 32) - BitVec.ofNat 32 a

/-- A device's place on the ring. -/
def ringPos (c : Dev nD) : ℕ :=
  if c.val % 4 = 0 then c.val / 4 else if c.val % 4 = 1 then 7 - c.val / 4 else if c.val % 4 = 2 then 8 + c.val / 4 else 15 - c.val / 4

/-- The chunk a stream handles on a device at a hop. -/
def chunk (c : Dev nD) (st : Fin 4) (h : ℕ) : ℕ :=
  if st.val % 2 = 0 then (ringPos c + 32 - h % 32) % 16 else (ringPos c + h % 32) % 16

theorem ringPos_lt : ∀ c : Dev nD, ringPos c < 16 := by decide
theorem offN_le : ∀ st, offN st ≤ 192 := by decide

theorem off_table : ∀ (c : Dev nD) (st : Fin 4) (h : Fin 32) (b : Bool),
    k0_off1 c (dirW st (bif b then 16 else 0) h.val) (offW st) 0 = 256 * chunk c st h.val + offN st
      ∧ k0_off1 c (dirW st (bif b then 16 else 0) h.val) (offW st) 1 = 0 := by
  decide +kernel

theorem off_eq (c : Dev nD) (st : Fin 4) (h : ℕ) (b : Bool) :
    k0_off1 c (dirW st (bif b then 16 else 0) h) (offW st) = ![256 * chunk c st h + offN st, 0] := by
  have hd : dirW st (bif b then 16 else 0) h = dirW st (bif b then 16 else 0) (h % 32) := by
    unfold dirW; rw [Nat.mod_mod]
  have hc : chunk c st h = chunk c st (h % 32) := by unfold chunk; rw [Nat.mod_mod]
  obtain ⟨h0, h1⟩ := off_table c st ⟨h % 32, Nat.mod_lt _ (by decide)⟩ b
  rw [hd, hc]
  funext a
  fin_cases a
  · exact h0
  · exact h1

theorem chunk_lt (c : Dev nD) (st : Fin 4) (h : ℕ) : chunk c st h < 16 := by
  unfold chunk; split <;> exact Nat.mod_lt _ (by decide)

theorem off_inb (c : Dev nD) (st : Fin 4) (h : ℕ) (b : Bool) :
    ∀ a, k0_off1 c (dirW st (bif b then 16 else 0) h) (offW st) a + S64x1024.size a ≤ S4096x1024.size a := by
  rw [off_eq]
  have h1 := chunk_lt c st h
  have h2 := offN_le st
  intro a
  fin_cases a
  · show 256 * chunk c st h + offN st + 64 ≤ 4096
    omega
  · show 0 + 1024 ≤ 1024
    omega

/-- The neighbour on the left and on the right, as the kernel computes them. -/
def nbr (b : Bool) (c : Dev nD) : Dev nD := bif b then ⟨k0_dev2 c, k0_dev2_lt c⟩ else ⟨k0_dev1 c, k0_dev1_lt c⟩

/-- Whether a stream is sent to the right. -/
def toRight (st : Fin 4) : Bool := decide (st.val % 2 = 0)

/-- Where a stream is sent, and where it comes from. -/
def dst (st : Fin 4) (c : Dev nD) : Dev nD := nbr (toRight st) c
def src (st : Fin 4) (c : Dev nD) : Dev nD := nbr (!toRight st) c

/-- The argument, the result and the two scratch buffers. -/
abbrev xM : Memref sig .tc .hbm S4096x1024 .f32 := Memref.whole main_arg0
abbrev oM : Memref sig .tc .hbm S4096x1024 .f32 := Memref.whole main_v1
abbrev cM : Memref sig .tc .vmem S4x4x64x1024 .f32 := Memref.whole cc0_scratch0
abbrev bM : Memref sig .tc .vmem S4x2x64x1024 .f32 := Memref.whole cc0_scratch1

/-- The rows of the argument a stream fetches for a hop. -/
abbrev xV (c : Dev nD) (st : Fin 4) (h : ℕ) : Memref sig .tc .hbm S64x1024 .f32 :=
  xM.slice (Rect.unit (s := S4096x1024) (k0_off1 c (dirW st 0 h) (offW st)) S64x1024.size (off_inb c st h false)) (fun _ => rfl)
/-- The rows of the result a stream writes at a hop. -/
abbrev oV (c : Dev nD) (st : Fin 4) (h : ℕ) : Memref sig .tc .hbm S64x1024 .f32 :=
  oM.slice (Rect.unit (s := S4096x1024) (k0_off1 c (dirW st 16 h) (offW st)) S64x1024.size (off_inb c st h true)) (fun _ => rfl)
/-- A stream's slots: 0 holds what is sent, 1 to 3 what arrives. -/
abbrev cR (st p : Fin 4) : Rect S4x4x64x1024 :=
  Rect.unit (s := S4x4x64x1024) ![st.val, p.val, 0, 0] S1x1x64x1024.size (inbC st p)
abbrev cV (st p : Fin 4) : Memref sig .tc .vmem S64x1024 .f32 :=
  (cM.slice (cR st p) (fun _ => rfl)).squeeze S64x1024 squeezes_S1x1x64x1024_S64x1024
/-- A stream's two fetch buffers. -/
abbrev bR (st : Fin 4) (p : Fin 2) : Rect S4x2x64x1024 :=
  Rect.unit (s := S4x2x64x1024) ![st.val, p.val, 0, 0] S1x1x64x1024.size (inbB st p)
abbrev bV (st : Fin 4) (p : Fin 2) : Memref sig .tc .vmem S64x1024 .f32 :=
  (bM.slice (bR st p) (fun _ => rfl)).squeeze S64x1024 squeezes_S1x1x64x1024_S64x1024

theorem cV_word (st p : Fin 4) : (cV st p).view.WordExact := (View.wordExact_bits (v := (cM.slice (cR st p) (fun _ => rfl)).view) rfl).reshape _ _
theorem bV_word (st : Fin 4) (p : Fin 2) : (bV st p).view.WordExact := (View.wordExact_bits (v := (bM.slice (bR st p) (fun _ => rfl)).view) rfl).reshape _ _
theorem xV_word (c : Dev nD) (st : Fin 4) (h : ℕ) : (xV c st h).view.WordExact := View.wordExact_bits rfl
theorem oV_word (c : Dev nD) (st : Fin 4) (h : ℕ) : (oV c st h).view.WordExact := View.wordExact_bits rfl

/-- The semaphores. -/
abbrev sndS (st : Fin 4) : DmaSem sig := ((cc0_scratch2.slice (Rect.unit (s := S4) ![st.val] S1.size (inb1 st))).squeeze S_ squeezes_S1_S_).sem
abbrev rcvS (st : Fin 4) (p : Fin 3) : DmaSem sig := ((cc0_scratch3.slice (Rect.unit (s := S4x3) ![st.val, p.val] S1x1.size (inb3 st p))).squeeze S_ squeezes_S1x1_S_).sem
abbrev crdS (st : Fin 4) : Sem sig := ((cc0_scratch4.slice (Rect.unit (s := S4) ![st.val] S1.size (inb1 st))).squeeze S_ squeezes_S1_S_).sem
abbrev xS (st : Fin 4) : DmaSem sig := ((cc0_scratch5.slice (Rect.unit (s := S4) ![st.val] S1.size (inb1 st))).squeeze S_ squeezes_S1_S_).sem
abbrev oS (st : Fin 4) : DmaSem sig := ((cc0_scratch6.slice (Rect.unit (s := S4) ![st.val] S1.size (inb1 st))).squeeze S_ squeezes_S1_S_).sem
abbrev barS : Sem sig := (SemArray.scalar (sig.barrier 0 rfl) : Sems sig S_).sem

/-- The landing slot of a hop, its receive semaphore and its fetch buffer. -/
abbrev slotOf (h : ℕ) : Fin 4 := ⟨1 + h % 3, Nat.lt_of_lt_of_le (Nat.add_lt_add_left (Nat.mod_lt h (by decide)) 1) (by decide)⟩
abbrev third (h : ℕ) : Fin 3 := ⟨h % 3, Nat.mod_lt _ (by decide)⟩
abbrev par (h : ℕ) : Fin 2 := ⟨h % 2, Nat.mod_lt _ (by decide)⟩

/-! ## One hop -/

abbrev P (F : FTy → Type) [FloatOps F] := Prog (TpuEff nD τ sig (Elt F) Λ₀ .tc) PUnit

/-- Start the fetch for hop `h`. -/
def fetch (c : Dev nD) (st : Fin 4) (h : ℕ) : P F :=
  Prog.lift (.enqueueDma (xV c st h) (.here (bV st (par h))) (.dma (xS st)) (xV_word c st h) (bV_word st (par h)) ⟨Or.inl rfl, trivial⟩)
/-- Wait for the fetch for hop `h`. -/
def fetched (c : Dev nD) (st : Fin 4) (h : ℕ) : P F :=
  Prog.lift (.waitDma2 (xS st) (xV c st h) (bV st (par h)) (xV_word c st h) (bV_word st (par h)))
/-- Wait for hop `h`'s block to arrive. -/
def arrived (st : Fin 4) (h : ℕ) : P F :=
  Prog.lift (.waitDma2 (rcvS st (third h)) (cV st 0) (cV st (slotOf h)) (cV_word st 0) (cV_word st (slotOf h)))
/-- Wait until hop `h`'s block has left. -/
def left' (st : Fin 4) (h : ℕ) : P F :=
  Prog.lift (.waitDma2 (sndS st) (cV st (slotOf h)) (cV st 0) (cV_word st (slotOf h)) (cV_word st 0))
/-- Start, and wait for, the copy of a slot into the result's rows of hop `h`. -/
def put (c : Dev nD) (st p : Fin 4) (h : ℕ) : P F :=
  Prog.lift (.enqueueDma (cV st p) (.here (oV c st h)) (.dma (oS st)) (cV_word st p) (oV_word c st h) ⟨Or.inl rfl, trivial⟩)
def putDone (c : Dev nD) (st p : Fin 4) (h : ℕ) : P F :=
  Prog.lift (.waitDma2 (oS st) (cV st p) (oV c st h) (cV_word st p) (oV_word c st h))
/-- Send slot 0 on. -/
def send (c : Dev nD) (st : Fin 4) (h : ℕ) : P F :=
  Prog.lift (.enqueueDma (cV st 0) (.remote (Dev.tc (dst st c)) (cV st (slotOf h)) (.dma (sndS st))) (.dma (rcvS st (third h))) (cV_word st 0) (cV_word st (slotOf h)) ⟨⟨rfl, Or.inl rfl⟩, trivial⟩)

/-- A slot's payload when it is only passed on, and when a fetched block is added. -/
def pass (v : Vec F S1x1x64x1024 .f32) : FVec F S1x1x64x1024 .f32 :=
  shapeCast S1x1x64x1024 (shapeCast S64x1024 v shapeCasts_S1x1x64x1024_S64x1024) shapeCasts_S64x1024_S1x1x64x1024
def plus (v w : Vec F S1x1x64x1024 .f32) : FVec F S1x1x64x1024 .f32 :=
  shapeCast S1x1x64x1024 (addf (shapeCast S64x1024 v shapeCasts_S1x1x64x1024_S64x1024 : FVec F S64x1024 .f32)
    (shapeCast S64x1024 w shapeCasts_S1x1x64x1024_S64x1024)) shapeCasts_S64x1024_S1x1x64x1024

def loadC (st p : Fin 4) : Prog (TpuEff nD τ sig (Elt F) Λ₀ .tc) (Vec F S1x1x64x1024 .f32) :=
  Prog.lift (.load cM (cR st p).toLoadRect (View.loadsAt_vmem h_S1x1x64x1024))
def loadB (st : Fin 4) (p : Fin 2) : Prog (TpuEff nD τ sig (Elt F) Λ₀ .tc) (Vec F S1x1x64x1024 .f32) :=
  Prog.lift (.load bM (bR st p).toLoadRect (View.loadsAt_vmem h_S1x1x64x1024))
def storeC (st : Fin 4) (v : FVec F S1x1x64x1024 .f32) : P F :=
  Prog.lift (.store cM (cR st 0) v Finset.univ (View.stores_vmem_bits_univ h_S1x1x64x1024 rfl) (.inl rfl))

/-- Make the block hop `h` sends, in slot 0. -/
def make (st : Fin 4) (h : ℕ) : P F :=
  if h = 0 then do
    let v ← loadB st 0
    let _ ← loadC st 0
    storeC st (pass v)
  else if h ≤ 15 then do
    let v ← loadC st (slotOf (h - 1))
    let w ← loadB st (par h)
    let _ ← loadC st 0
    storeC st (plus v w)
  else do
    let v ← loadC st (slotOf (h - 1))
    let _ ← loadC st 0
    storeC st (pass v)

/-- An operation that only some hops do. -/
def only (p : Prop) [Decidable p] (x : P F) : P F := if p then x else pure ⟨⟩

/-- Hop `h` of a stream. -/
def hop (c : Dev nD) (st : Fin 4) (h : ℕ) : P F := do
  only (1 ≤ h) (arrived st (h - 1))
  only (1 ≤ h) (left' st (h - 1))
  only (16 ≤ h) (putDone c st 0 (h - 1))
  only (h ≤ 15) (fetched c st h)
  make st h
  only (h ≤ 14) (fetch c st (h + 1))
  only (15 ≤ h) (put c st 0 h)
  only (2 ≤ h ∧ h ≤ 28) (semSignalWord (src st c) (crdS st) 1#32)
  only (3 ≤ h) (semWaitWord (crdS st) 1#32)
  send c st h

/-- The closing steps of a stream. -/
def close (c : Dev nD) (st : Fin 4) : P F := do
  arrived st 29
  putDone c st 0 29
  put c st 3 30
  putDone c st 3 30
  left' st 29

/-- The four streams of a hop, and `n` hops from hop `h` on, before `k`. -/
def hops (c : Dev nD) : ℕ → ℕ → P F → P F
  | 0, _, k => k
  | n + 1, h, k => do
    hop c 0 h
    hop c 1 h
    hop c 2 h
    hop c 3 h
    hops c n (h + 1) k

/-- The fetches and the barrier. -/
def opening (c : Dev nD) : P F := do
  fetch c 0 0
  fetch c 1 0
  fetch c 2 0
  fetch c 3 0
  semSignalWord (nbr false c) barS 1#32
  semSignalWord (nbr true c) barS 1#32
  semWaitWord barS 2#32

/-- The whole body. -/
def whole : P F := do
  let c ← Prog.lift .deviceId
  opening c
  hops c 30 0 do
    close c 0
    close c 1
    close c 2
    close c 3

end Cert.RingProof

end
-- ==== Proof.Protocol.lean ====
/-
# The exchange of the ring

What every device sends, in closed form; the semaphores with what each of their rounds hands over; and
what each device owes the others. A block that arrived is read once and its slot is then given back: the
slot waits in an invariant, and only the news that it is free travels to the sender, with the credits.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Release
public import Idealize.ShloMosaic.Lib.Transfers
public import Idealize.ShloMosaic.Lib.VecWindow
public import Idealize.ShloMosaic.Lib.Tactic

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ring -/

theorem src_dst : ∀ (st : Fin 4) (c : Dev nD), src st (dst st c) = c := by decide +kernel
theorem dst_src : ∀ (st : Fin 4) (c : Dev nD), dst st (src st c) = c := by decide +kernel
theorem nbr_nbr : ∀ (b : Bool) (c : Dev nD), nbr b (nbr (!b) c) = c := by decide +kernel

/-- One step along a stream, as a permutation of the devices. -/
def along (st : Fin 4) : Dev nD ≃ Dev nD := ⟨dst st, src st, src_dst st, dst_src st⟩
def beside (b : Bool) : Dev nD ≃ Dev nD :=
  ⟨nbr b, nbr (!b), fun c => by have := nbr_nbr (!b) c; rwa [Bool.not_not] at this, nbr_nbr b⟩

/-! ## Values -/

variable (m : (ℓ : Loc nD τ sig) → Buf (Elt F) ℓ)

/-- The rows a stream fetches on a device for a hop. -/
def xrows (c : Dev nD) (st : Fin 4) (h : ℕ) : FVec F S64x1024 .f32 :=
  (xV c st h).view.read (Elt F) (m ((c : Thread nD τ).loc main_arg0))

/-- The block a stream sends on a device at a hop: its own rows at first, then what arrived, with its own rows added
    for the first half of the way. -/
def blk : ℕ → Dev nD → Fin 4 → FVec F S64x1024 .f32
  | 0, c, st => xrows m c st 0
  | h + 1, c, st => if h + 1 ≤ 15 then addf (blk h (src st c) st) (xrows m c st (h + 1)) else blk h (src st c) st

/-! ## The resources -/

abbrev Key : Type := Dev nD × Fin 4 × Fin 3
abbrev UX : Type := URounds (GSem nD τ sig) ℕ
abbrev UU : Type := UR sig nD τ × (UX × USlots Key)

local notation "𝕄" => MT nD τ sig ℕ (Elt F) ℕ UU ℕ

abbrev EP : Emb (UR sig nD τ) (MT nD τ sig ℕ (Elt F) ℕ UU ℕ) := embL
abbrev ER : Emb UX (MT nD τ sig ℕ (Elt F) ℕ UU ℕ) := (Emb.inl : Emb UX (UX × USlots Key)).trans embR
abbrev ES : Emb (USlots Key) (MT nD τ sig ℕ (Elt F) ℕ UU ℕ) := (Emb.inr : Emb (USlots Key) (UX × USlots Key)).trans embR

/-- A memref's elements at a share, holding a block. -/
def Has (c : Dev nD) {sp : Space} {s : Shape} {e : EltTy} (v : Memref sig .tc sp s e) (q : PosShare TreeShare) (X : s.Idx → Elt F e) : sProp 𝕄 :=
  v.view.loc (c : Thread nD τ) ↦[v.view.set]{q} v.view.rep X

/-- A memref's elements, holding anything. -/
def Any (c : Dev nD) {sp : Space} {s : Shape} {e : EltTy} (v : Memref sig .tc sp s e) : sProp 𝕄 :=
  slot (v.view.loc (c : Thread nD τ)) v.view.set

instance Has_storable (c : Dev nD) {sp : Space} {s : Shape} {e : EltTy} (v : Memref sig .tc sp s e) (q) (X : s.Idx → Elt F e) :
    BI.Storable (upEmb : UEmb _ 𝕄) (Has c v q X) := by unfold Has; infer_instance
instance Any_storable (c : Dev nD) {sp : Space} {s : Shape} {e : EltTy} (v : Memref sig .tc sp s e) :
    BI.Storable (upEmb : UEmb _ 𝕄) (Any c v : sProp 𝕄) := by unfold Any; infer_instance

theorem Has_intro (c : Dev nD) {sp : Space} {s : Shape} {e : EltTy} (v : Memref sig .tc sp s e) (q) (X : s.Idx → Elt F e)
    (f : Buf (Elt F) (v.view.loc (c : Thread nD τ))) (h : v.view.read (Elt F) f = X) :
    (v.view.loc (c : Thread nD τ) ↦[v.view.set]{q} f : sProp 𝕄) ⊢ Has c v q X := by
  unfold Has; exact pointsTo_rep_of_read (c : Thread nD τ) v f q X h
theorem Has_written (c : Dev nD) {sp : Space} {s : Shape} {e : EltTy} (v : Memref sig .tc sp s e) (q) (X : s.Idx → Elt F e)
    (f : Buf (Elt F) (v.view.loc (c : Thread nD τ))) :
    (v.view.loc (c : Thread nD τ) ↦[v.view.set]{q} v.view.write (Elt F) f X Finset.univ : sProp 𝕄) ⊢ Has c v q X :=
  Has_intro c v q X _ (View.read_write_univ _ _)
theorem Has_any (c : Dev nD) {sp : Space} {s : Shape} {e : EltTy} (v : Memref sig .tc sp s e) (X : s.Idx → Elt F e) :
    (Has c v fullShare X : sProp 𝕄) ⊢ Any c v := by
  unfold Has Any slot; iintro H; iexists _; iexact H
theorem Has_halves (c : Dev nD) {sp : Space} {s : Shape} {e : EltTy} (v : Memref sig .tc sp s e) (X : s.Idx → Elt F e) :
    (Has c v fullShare X : sProp 𝕄) ⊣⊢ iprop(Has c v fullShare.left X ∗ Has c v fullShare.right X) := by
  unfold Has; exact pointsTo_share (PosShare.mem_left_op_right fullShare)

/-! ## The semaphores -/

/-- The semaphores of a device: the barrier's; per stream the credits', the sends', the fetches' and the results'; per
    stream and slot the arrivals'. -/
abbrev Kind : Type := Unit ⊕ (Fin 4 ⊕ Fin 4 ⊕ (Fin 4 × Fin 3) ⊕ Fin 4 ⊕ Fin 4)
instance kindDecidableEq : DecidableEq Kind :=
  @instDecidableEqSum Unit (Fin 4 ⊕ Fin 4 ⊕ (Fin 4 × Fin 3) ⊕ Fin 4 ⊕ Fin 4) inferInstance inferInstance
abbrev kBar : Kind := .inl ()
abbrev kCrd (st : Fin 4) : Kind := .inr (.inl st)
abbrev kSnd (st : Fin 4) : Kind := .inr (.inr (.inl st))
abbrev kRcv (st : Fin 4) (p : Fin 3) : Kind := .inr (.inr (.inr (.inl (st, p))))
abbrev kX (st : Fin 4) : Kind := .inr (.inr (.inr (.inr (.inl st))))
abbrev kO (st : Fin 4) : Kind := .inr (.inr (.inr (.inr (.inr st))))

def semOf : Kind → SemLoc sig
  | .inl _ => .reg barS
  | .inr (.inl st) => .reg (crdS st)
  | .inr (.inr (.inl st)) => .dma (sndS st)
  | .inr (.inr (.inr (.inl (st, p)))) => .dma (rcvS st p)
  | .inr (.inr (.inr (.inr (.inl st)))) => .dma (xS st)
  | .inr (.inr (.inr (.inr (.inr st)))) => .dma (oS st)

theorem semOf_inj : Function.Injective semOf := by decide +kernel

def kindOf : SemLoc sig → Kind := Function.invFun semOf
theorem kindOf_semOf (k : Kind) : kindOf (semOf k) = k := Function.leftInverse_invFun semOf_inj k

abbrev cell (c : Dev nD) (k : Kind) : GSem nD τ sig := ((c : Thread nD τ), semOf k)

theorem cell_inj {c c' : Dev nD} {k k' : Kind} : cell c k = cell c' k' ↔ c = c' ∧ k = k' :=
  ⟨fun h => ⟨Fin.ext (congrArg (fun g : GSem nD τ sig => g.1.1.val) h), semOf_inj (congrArg Prod.snd h)⟩, fun ⟨h, h'⟩ => h ▸ h' ▸ rfl⟩

/-- A block's credit on a transfer's semaphore. -/
def N : ℕ := (cV 0 0).view.dmaCredit
theorem N_pos : 0 < N := View.dmaCredit_pos _ (by decide)

/-- A stream's share of the argument. -/
abbrev xq (st : Fin 4) : PosShare TreeShare := Transfers.dealOf fullShare (Finset.univ : Finset (Fin 4)) st

/-- News from a stream's receiver: the slot that hop `i` fills is free, and its semaphore has come that far. -/
def Room (e : Dev nD) (st : Fin 4) (i : ℕ) : sProp 𝕄 :=
  iprop(released ES (e, st, third i) (i / 3 + 1) ∗ reached ER (cell e (kRcv st (third i))) (i / 3))
instance Room_persistent (e : Dev nD) (st : Fin 4) (i : ℕ) : BI.Persistent (Room e st i : sProp 𝕄) := by unfold Room; infer_instance
instance Room_storable (e : Dev nD) (st : Fin 4) (i : ℕ) : BI.Storable (upEmb : UEmb _ 𝕄) (Room e st i : sProp 𝕄) := by unfold Room; infer_instance

/-- The news a barrier signal brings: the first three slots of the streams sent the signaller's way. -/
def barPay (c : Dev nD) (b : Bool) : sProp 𝕄 :=
  bigSep (Finset.univ.filter fun st : Fin 4 => toRight st = b) fun st => bigSep (Finset.range 3) fun i => Room (dst st c) st i
/-- The news a credit brings: with credit `j`, that the blocks up to `j` have been read. -/
def crdPay (c : Dev nD) (st : Fin 4) (j : ℕ) : sProp 𝕄 := bigSep (Finset.range (j + 1)) fun i => Room (dst st c) st (i + 3)

/-- The slot the result's block `r` is copied from. -/
def oslot (r : ℕ) : Fin 4 := if r = 15 then 3 else 0

/-- What a round's duty hands over. -/
def pay (c : Dev nD) (r d : ℕ) : Kind → sProp 𝕄
  | .inl _ => barPay c (decide (d = 0))
  | .inr (.inl st) => crdPay c st d
  | .inr (.inr (.inl st)) => Has c (cV st 0) fullShare.left (blk m r c st)
  | .inr (.inr (.inr (.inl (st, p)))) => Has c (cV st (slotOf (3 * r + p.val))) fullShare (blk m (3 * r + p.val) (src st c) st)
  | .inr (.inr (.inr (.inr (.inl st)))) => iprop(Has c (bV st (par r)) fullShare (xrows m c st r) ∗ Has c (xV c st r) (xq st) (xrows m c st r))
  | .inr (.inr (.inr (.inr (.inr st)))) =>
    iprop(Has c (oV c st (15 + r)) fullShare (blk m (15 + r) c st) ∗ Has c (cV st (oslot r)) fullShare.right (blk m (15 + r) c st))

/-- How many rounds a semaphore has, and a round's duties. -/
def duty (r : ℕ) : Kind → Finset ℕ
  | .inl _ => if r = 0 then {0, 1} else ∅
  | .inr (.inl _) => if r = 0 then Finset.range 27 else ∅
  | .inr (.inr (.inl _)) => if r < 30 then {0} else ∅
  | .inr (.inr (.inr (.inl _))) => if r < 10 then {0} else ∅
  | .inr (.inr (.inr (.inr (.inl _)))) => if r < 16 then {0} else ∅
  | .inr (.inr (.inr (.inr (.inr _)))) => if r < 16 then {0} else ∅

/-- What a duty adds to the counter. -/
def amt : Kind → ℕ
  | .inl _ => 1
  | .inr (.inl _) => 1
  | .inr (.inr _) => N
theorem amt_pos (k : Kind) : 0 < amt k := by
  rcases k with _ | _ | _
  · exact Nat.one_pos
  · exact Nat.one_pos
  · exact N_pos

def Rd : Rounds.Schedule (GSem nD τ sig) ℕ 𝕄 where
  duties g r := if g.1.2 = .tc then duty r (kindOf g.2) else ∅
  unitless _ := False
  amount g _ _ := amt (kindOf g.2)
  payload g r d := pay m g.1.1 r d (kindOf g.2)
  amount_pos g _ _ _ := amt_pos _

instance pay_storable (c : Dev nD) (r d : ℕ) (k : Kind) : BI.Storable (upEmb : UEmb _ 𝕄) (pay m c r d k) := by
  rcases k with _ | _ | _ | ⟨_, _⟩ | _ | _ <;> unfold pay <;> (try unfold barPay) <;> (try unfold crdPay) <;> infer_instance
instance Rd_storable (g : GSem nD τ sig) (r d : ℕ) : BI.Storable (upEmb : UEmb _ 𝕄) ((Rd (F := F) m).payload g r d) := pay_storable m _ _ _ _

theorem Rd_duties (c : Dev nD) (k : Kind) (r : ℕ) : (Rd (F := F) m).duties (cell c k) r = duty r k := by
  show (if (cell c k).1.2 = .tc then duty r (kindOf (semOf k)) else ∅) = _
  rw [if_pos rfl, kindOf_semOf]
theorem Rd_amount (c : Dev nD) (k : Kind) (r d : ℕ) : (Rd (F := F) m).amount (cell c k) r d = amt k := by
  show amt (kindOf (semOf k)) = _; rw [kindOf_semOf]
theorem Rd_payload (c : Dev nD) (k : Kind) (r d : ℕ) : (Rd (F := F) m).payload (cell c k) r d = pay m c r d k := by
  show pay m c r d (kindOf (semOf k)) = _; rw [kindOf_semOf]
theorem Rd_expect (c : Dev nD) (k : Kind) (r : ℕ) : (Rd (F := F) m).expect (cell c k) r = (duty r k).card * amt k := by
  unfold Schedule.expect Schedule.amountOf
  rw [Rd_duties, Finset.sum_congr rfl fun d _ => Rd_amount m c k r d, Finset.sum_const, smul_eq_mul]

/-- The last round of each semaphore, plus one. -/
def rounds : Kind → ℕ
  | .inl _ => 1
  | .inr (.inl _) => 1
  | .inr (.inr (.inl _)) => 30
  | .inr (.inr (.inr (.inl _))) => 10
  | .inr (.inr (.inr (.inr (.inl _)))) => 16
  | .inr (.inr (.inr (.inr (.inr _)))) => 16
theorem duty_later (k : Kind) (r : ℕ) (h : rounds k ≤ r) : duty r k = ∅ := by
  rcases k with _ | _ | _ | ⟨_, _⟩ | _ | _ <;> dsimp only [rounds] at h <;> dsimp only [duty] <;> exact if_neg (by omega)
theorem Rd_later (c : Dev nD) (k : Kind) : ∀ r, rounds k ≤ r → (Rd (F := F) m).duties (cell c k) r = ∅ :=
  fun r h => (Rd_duties m c k r).trans (duty_later k r h)

/-! ## What is owed -/

/-- What hop `h` of a stream owes the sender of the stream, a credit, and its receiver, a block. -/
def dueS (c : Dev nD) (st : Fin 4) (h : ℕ) : CellTallies nD τ sig ℕ := if 2 ≤ h ∧ h ≤ 28 then tallyAt (cell (src st c) (kCrd st)) (h + 1) 1 else 0
def dueR (c : Dev nD) (st : Fin 4) (h : ℕ) : CellTallies nD τ sig ℕ := tallyAt (cell (dst st c) (kRcv st (third h))) (h + 1) N

/-- What is owed when the credits before hop `a st` and the blocks before hop `b st` have been sent. -/
def rem (c : Dev nD) (a b : Fin 4 → ℕ) : CellTallies nD τ sig ℕ :=
  (∑ st, ∑ h ∈ Finset.Ico (a st) 30, dueS c st h) + ∑ st, ∑ h ∈ Finset.Ico (b st) 30, dueR c st h

/-- What is owed at the start. -/
def O₀ (c : Dev nD) : CellTallies nD τ sig ℕ :=
  (rem c (fun _ => 0) (fun _ => 0) + tallyAt (cell (nbr true c) kBar) 0 1) + tallyAt (cell (nbr false c) kBar) 0 1

theorem ico_head {h n : ℕ} (hh : h < n) : Finset.Ico h n = insert h (Finset.Ico (h + 1) n) := by
  ext x; rw [Finset.mem_insert, Finset.mem_Ico, Finset.mem_Ico]; omega
theorem ico_not_head {h n : ℕ} : h ∉ Finset.Ico (h + 1) n := by rw [Finset.mem_Ico]; omega

theorem sum_step (D : Fin 4 → ℕ → CellTallies nD τ sig ℕ) (t : Fin 4 → ℕ) (st : Fin 4) (h : ℕ) (hs : t st = h) (hh : h < 30) :
    (∑ s, ∑ i ∈ Finset.Ico (t s) 30, D s i) = (∑ s, ∑ i ∈ Finset.Ico (Function.update t st (h + 1) s) 30, D s i) + D st h := by
  have he : (∑ s ∈ Finset.univ.erase st, ∑ i ∈ Finset.Ico (t s) 30, D s i)
      = ∑ s ∈ Finset.univ.erase st, ∑ i ∈ Finset.Ico (Function.update t st (h + 1) s) 30, D s i :=
    Finset.sum_congr rfl fun s hm => by rw [Function.update_of_ne (Finset.ne_of_mem_erase hm)]
  rw [← Finset.add_sum_erase _ _ (Finset.mem_univ st), he,
    ← Finset.add_sum_erase Finset.univ (fun s => ∑ i ∈ Finset.Ico (Function.update t st (h + 1) s) 30, D s i) (Finset.mem_univ st)]
  rw [Function.update_self, hs, ico_head hh, Finset.sum_insert ico_not_head]
  rw [add_comm (D st h), add_right_comm]

theorem rem_signal (c : Dev nD) (a b : Fin 4 → ℕ) (st : Fin 4) (h : ℕ) (hs : a st = h) (hh : h < 30) :
    rem c a b = rem c (Function.update a st (h + 1)) b + dueS c st h := by
  unfold rem; rw [sum_step _ a st h hs hh, add_right_comm]
theorem rem_send (c : Dev nD) (a b : Fin 4 → ℕ) (st : Fin 4) (h : ℕ) (hs : b st = h) (hh : h < 30) :
    rem c a b = rem c a (Function.update b st (h + 1)) + dueR c st h := by
  unfold rem; rw [sum_step _ b st h hs hh, add_assoc]
theorem rem_end (c : Dev nD) : rem c (fun _ => 30) (fun _ => 30) = 0 := by
  unfold rem; simp

/-- Every index in use, and the level of an index: itself. -/
def L (g : GSem nD τ sig) : Finset ℕ := if g.1.2 = .tc then Finset.range 32 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 32 := if_pos rfl

theorem tally_index {g g' : GSem nD τ sig} {i j n : ℕ} (h : 0 < (tallyAt g' j n : CellTallies nD τ sig ℕ) g i) : g = g' ∧ i = j := by
  rw [tallyAt_apply] at h
  by_contra hn; rw [if_neg hn] at h; exact Nat.lt_irrefl 0 h

theorem sum_index {D : Fin 4 → ℕ → CellTallies nD τ sig ℕ} {t : Fin 4 → ℕ} {g : GSem nD τ sig} {i h : ℕ} (hle : ∀ s, h ≤ t s)
    (hD : ∀ s k, 0 < D s k g i → i = k + 1 ∧ g.1.2 = .tc)
    (hp : 0 < (∑ s, ∑ k ∈ Finset.Ico (t s) 30, D s k) g i) : h < i ∧ i < 32 ∧ g.1.2 = .tc := by
  obtain ⟨s, -, hs⟩ := Pipeline.sum_pos_exists hp
  obtain ⟨k, hk, hk'⟩ := Pipeline.sum_pos_exists hs
  obtain ⟨rfl, hg⟩ := hD s k hk'
  have h1 := Finset.mem_Ico.mp hk
  have h2 := hle s
  exact ⟨by omega, by omega, hg⟩

theorem dueS_index {c : Dev nD} {st : Fin 4} {k : ℕ} {g : GSem nD τ sig} {i : ℕ} (h : 0 < dueS c st k g i) : i = k + 1 ∧ g.1.2 = .tc := by
  unfold dueS at h
  split at h
  · obtain ⟨rfl, rfl⟩ := tally_index h; exact ⟨rfl, rfl⟩
  · exact absurd h (Nat.lt_irrefl 0)
theorem dueR_index {c : Dev nD} {st : Fin 4} {k : ℕ} {g : GSem nD τ sig} {i : ℕ} (h : 0 < dueR c st k g i) : i = k + 1 ∧ g.1.2 = .tc := by
  unfold dueR at h
  obtain ⟨rfl, rfl⟩ := tally_index h; exact ⟨rfl, rfl⟩

theorem rem_index {c : Dev nD} {a b : Fin 4 → ℕ} {h i : ℕ} {g : GSem nD τ sig} (ha : ∀ s, h ≤ a s) (hb : ∀ s, h ≤ b s)
    (hp : 0 < rem c a b g i) : h < i ∧ i < 32 ∧ g.1.2 = .tc := by
  rcases Pipeline.add_pos_cases hp with h1 | h1
  · exact sum_index ha (fun _ _ => dueS_index) h1
  · exact sum_index hb (fun _ _ => dueR_index) h1

/-- A wait at an index no later than the hops still to do is allowed. -/
theorem may_wait (c : Dev nD) (sm : SemLoc sig) (i h : ℕ) (a b : Fin 4 → ℕ) (hi : i ≤ h) (h31 : h ≤ 31) (ha : ∀ s, h ≤ a s) (hb : ∀ s, h ≤ b s) :
    (levAts L lv : sProp 𝕄) ⊢ MayWait (c : Thread nD τ) sm i (rem c a b) :=
  Pipeline.mayWait_of_levAts (by rw [L_tc]; exact Finset.mem_range.mpr (by omega)) fun g j hg => by
    obtain ⟨h1, h2, h3⟩ := rem_index ha hb hg
    refine ⟨?_, show i < j by omega⟩
    unfold L; rw [if_pos h3]; exact Finset.mem_range.mpr h2

end Cert.RingProof

end
-- ==== Proof.Steps.lean ====
/-
# The operations of a hop

One statement per operation of a hop: what of a stream's resources it takes and what it leaves. The
resources are counted by how often the operation has been done, so that one statement serves every hop.
-/
module

public import proofs.«01_k».proof.Proof.Protocol

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

variable (m : (ℓ : Loc nD τ sig) → Buf (Elt F) ℓ)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- One program after another: the first one's resources are traded for what it leaves. -/
theorem after {c : Dev nD} {p : P F} {A B : sProp 𝕄} (h : A ⊢ wpc c p fun _ => B) {k : PUnit → P F} {Q : PUnit → sProp 𝕄} :
    A ⊢ iprop((B -∗ wpc c (k ⟨⟩) Q) -∗ wpc c (p >>= k) Q) := by
  unfold wpc
  rw [wp_bind]
  iintro HA Hk
  ihave H := h $$ HA
  iapply (wp_wand frame (wpE (defs₀ (F := F)) 𝒱₀ (c : Thread nD τ) none) Set.univ) $$ H
  iintro %u HB
  iapply Hk; iexact HB

/-- The same for the last program. -/
theorem last {c : Dev nD} {p : P F} {A B : sProp 𝕄} (h : A ⊢ wpc c p fun _ => B) {Q : PUnit → sProp 𝕄} :
    A ⊢ iprop((B -∗ Q ⟨⟩) -∗ wpc c p Q) := by
  unfold wpc
  iintro HA Hk
  ihave H := h $$ HA
  iapply (wp_wand frame (wpE (defs₀ (F := F)) 𝒱₀ (c : Thread nD τ) none) Set.univ) $$ H
  iintro %u HB
  iapply Hk; iexact HB

theorem take_head {h n : ℕ} (hh : h < n) (Φ : ℕ → sProp 𝕄) : bigSep (Finset.Ico h n) Φ = iprop(Φ h ∗ bigSep (Finset.Ico (h + 1) n) Φ) := by
  rw [ico_head hh]; exact bigSep_insert ico_not_head

theorem take_last (n : ℕ) (Φ : ℕ → sProp 𝕄) : bigSep (Finset.range (n + 1)) Φ = iprop(Φ n ∗ bigSep (Finset.range n) Φ) := by
  rw [Finset.range_add_one]; exact bigSep_insert Finset.notMem_range_self

/-! ## What everyone knows -/

/-- The landing slot behind a key. -/
abbrev slotS (p : Fin 3) : Fin 4 := ⟨1 + p.val, by have := p.isLt; omega⟩
abbrev keySlot (k : Key) : sProp 𝕄 := Any k.1 (cV k.2.1 (slotS k.2.2))

variable (K : Dev nD × Kind → ℕ) (ι : Key → ℕ)

/-- The records of the exchange: every semaphore's and every slot's invariant, that every semaphore has started, and the
    levels. -/
def recs : sProp 𝕄 :=
  iprop((bigSep Finset.univ fun x : Dev nD × Kind => cellInv ER (Rd m) (K x) (cell x.1 x.2))
    ∗ (bigSep Finset.univ fun x : Dev nD × Kind => reached ER (cell x.1 x.2) 0)
    ∗ (bigSep Finset.univ fun k : Key => slotInv ES (ι k) k (keySlot k))
    ∗ levAts L lv)

instance recs_persistent : BI.Persistent (recs m K ι) := by unfold recs; infer_instance

theorem one_of {I : Type} [DecidableEq I] {s : Finset I} {i : I} (hi : i ∈ s) (Φ : I → sProp 𝕄) : iprop(bigSep s Φ) ⊢ iprop(Φ i) := bigSep_elim hi

theorem recs_cell (c : Dev nD) (k : Kind) : recs m K ι ⊢ cellInv ER (Rd m) (K (c, k)) (cell c k) := by
  unfold recs
  iintro ⟨H, -⟩
  iapply (one_of (Finset.mem_univ (c, k)) (fun x : Dev nD × Kind => cellInv ER (Rd m) (K x) (cell x.1 x.2))) $$ H
theorem recs_reached (c : Dev nD) (k : Kind) : recs m K ι ⊢ reached ER (cell c k) 0 := by
  unfold recs
  iintro ⟨-, H, -⟩
  iapply (one_of (Finset.mem_univ (c, k)) (fun x : Dev nD × Kind => reached ER (cell x.1 x.2) 0)) $$ H
theorem recs_slot (k : Key) : recs m K ι ⊢ slotInv ES (ι k) k (keySlot k) := by
  unfold recs
  iintro ⟨-, -, H, -⟩
  iapply (one_of (Finset.mem_univ k) (fun k : Key => slotInv ES (ι k) k (keySlot k))) $$ H
theorem recs_levels : recs m K ι ⊢ levAts L lv := by
  unfold recs
  iintro ⟨-, -, -, H⟩
  iexact H

/-- What the device still owes. -/
def Ow (c : Dev nD) (a b : Fin 4 → ℕ) : sProp 𝕄 := iprop(∃ W, owes (c : Thread nD τ) (rem c a b) W)

/-! ## A wait that ends a round -/

/-- The wait for a round with a single duty, on a transfer's semaphore. -/
theorem round_wait (c : Dev nD) (st : Fin 4) (k : Kind) (sm : DmaSem sig) (hk : semOf k = .dma sm) (R i h : ℕ) (hR : duty R k = {0}) (hN : amt k = N)
    (hi : i ≤ h) (h31 : h ≤ 31) (a b : Fin 4 → ℕ) (ha : ∀ s, h ≤ a s) (hb : ∀ s, h ≤ b s)
    {sp sp' : Space} (v : Memref sig .tc sp S64x1024 .f32) (w : Memref sig .tc sp' S64x1024 .f32) (hv : v.view.WordExact) (hw : w.view.WordExact)
    (hc : w.view.dmaCredit = N) :
    iprop(recs m K ι ∗ cred (tallyAt (cell c k) i N) ∗ atPos ER (cell c k) R ∅ 0 ∗ Ow c a b)
      ⊢ wpc c (Prog.lift (.waitDma2 sm v w hv hw)) fun _ =>
        iprop(atPos ER (cell c k) (R + 1) ∅ 0 ∗ reached ER (cell c k) (R + 1) ∗ Ow c a b ∗ pay m c R 0 k) := by
  have hx : (Rd (F := F) m).expect (cell c k) R = N := by rw [Rd_expect, hR, hN, Finset.card_singleton, one_mul]
  have hp : bigSep ((Rd (F := F) m).duties (cell c k) R \ ∅) (fun d => (Rd (F := F) m).payload (cell c k) R d) = pay m c R 0 k := by
    rw [Finset.sdiff_empty, Rd_duties, hR, bigSep_singleton, Rd_payload]
  have hcell : cell c k = ((c : Thread nD τ), SemLoc.dma sm) := Prod.ext rfl hk
  have hcI := recs_cell m K ι c k
  have hsm := (recs_levels m K ι).trans (may_wait (F := F) c (.dma sm) i h a b hi h31 ha hb)
  rw [hcell] at hx hp hcI ⊢
  have hk' : 0 + w.view.dmaCredit = (Rd (F := F) m).expect ((c : Thread nD τ), SemLoc.dma sm) R := (Nat.zero_add _).trans (hc.trans hx.symm)
  rw [← hc]
  unfold Ow wpc Prog.lift
  iintro ⟨#HR, Hc, Hat, ⟨%W, HO⟩⟩
  iapply (Rounds.wp_wait_rest_token 𝒱₀ ER (Rd m) (c : Thread nD τ) none (κ := K (c, k))
      (wpE_waitDma2_eq 𝒱₀ (c : Thread nD τ) none Set.univ) (Set.mem_univ _) i (O := rem c a b) (W := W) (R := R) (m := 0) (T := ∅)
      hk') $$ [Hc HO Hat]
  · isplitr; · iapply hcI; iexact HR
    isplitl [Hc]; · iexact Hc
    isplitl [HO]; · iexact HO
    isplitr; · iapply hsm; iexact HR
    iexact Hat
  iintro ⟨HO, Hat, Hr, Hpay⟩
  ihave Hp := (Entails.of_eq hp) $$ Hpay
  rw [wp_ret]
  imodintro
  isplitl [Hat]; · iexact Hat
  isplitl [Hr]; · iexact Hr
  isplitl [HO]; · iexists _; iexact HO
  iexact Hp

/-! ## Arrivals -/

/-- How many of the first `n` blocks arrive in a slot. -/
def rnd (n : ℕ) (p : Fin 3) : ℕ := (n + 2 - p.val) / 3

theorem rnd_third (n : ℕ) : rnd n (third n) = n / 3 := by unfold rnd third; dsimp only; omega
theorem rnd_succ_third (n : ℕ) : rnd (n + 1) (third n) = n / 3 + 1 := by unfold rnd third; dsimp only; omega
theorem rnd_succ_ne (n : ℕ) (p : Fin 3) (h : p ≠ third n) : rnd (n + 1) p = rnd n p := by
  have h1 : p.val ≠ n % 3 := fun e => h (Fin.ext e)
  have h2 := p.isLt
  unfold rnd; omega

/-- A family over the slots when one more block is counted: only its slot's member changes. -/
theorem bump (Φ : Fin 3 → ℕ → sProp 𝕄) (n : ℕ) :
    (bigSep Finset.univ fun p => Φ p (rnd n p)) ⊢ iprop(Φ (third n) (n / 3) ∗ (Φ (third n) (n / 3 + 1) -∗ bigSep Finset.univ fun p => Φ p (rnd (n + 1) p))) := by
  have h := bigSep_univ_update (Φ := fun p => Φ p (rnd n p)) (Ψ := fun p => Φ p (rnd (n + 1) p)) (third n)
    fun p hp => by rw [rnd_succ_ne n p hp]
  rwa [rnd_third, rnd_succ_third] at h

/-- A stream before arrival `n`. -/
def Arr (c : Dev nD) (st : Fin 4) (n : ℕ) : sProp 𝕄 :=
  iprop((bigSep (Finset.Ico n 30) fun i => cred (tallyAt (cell c (kRcv st (third i))) (i + 1) N))
    ∗ bigSep Finset.univ fun p => atPos ER (cell c (kRcv st p)) (rnd n p) ∅ 0)

theorem pay_rcv (c : Dev nD) (st : Fin 4) (n d : ℕ) :
    pay m c (n / 3) d (kRcv st (third n)) = Has c (cV st (slotOf n)) fullShare (blk m n (src st c) st) := by
  have h : 3 * (n / 3) + (third n).val = n := Nat.div_add_mod n 3
  show Has c (cV st (slotOf (3 * (n / 3) + (third n).val))) fullShare (blk m (3 * (n / 3) + (third n).val) (src st c) st) = _
  rw [h]

theorem arrived_step (c : Dev nD) (st : Fin 4) (n : ℕ) (hn : n < 30) (a b : Fin 4 → ℕ) (ha : ∀ s, n + 1 ≤ a s) (hb : ∀ s, n + 1 ≤ b s) :
    iprop(recs m K ι ∗ Arr c st n ∗ Ow c a b)
      ⊢ wpc c (arrived st n) fun _ => iprop(Arr c st (n + 1) ∗ Ow c a b ∗ reached ER (cell c (kRcv st (third n))) (n / 3 + 1)
        ∗ Has c (cV st (slotOf n)) fullShare (blk m n (src st c) st)) := by
  unfold Arr arrived
  rw [take_head hn]
  beta_reduce
  iintro ⟨#HR, ⟨⟨Hc, Hcs⟩, Hat⟩, HO⟩
  ihave Hat' := (bump (fun p r => atPos ER (cell c (kRcv st p)) r ∅ 0) n) $$ Hat
  icases Hat' with ⟨Hat, Hback⟩
  iapply (last (round_wait m K ι c st (kRcv st (third n)) (rcvS st (third n)) rfl (n / 3) (n + 1) (n + 1)
    (if_pos (by omega)) rfl (le_refl _) (by omega) a b ha hb _ _ (cV_word st 0) (cV_word st (slotOf n)) rfl)) $$ [Hc Hat HO]
  · isplitr; · iexact HR
    isplitl [Hc]; · iexact Hc
    isplitl [Hat] <;> iassumption
  iintro ⟨Hat, Hr, HO, Hpay⟩
  isplitl [Hcs Hback Hat]
  · isplitl [Hcs]; · iexact Hcs
    iapply Hback; iexact Hat
  isplitl [HO]; · iexact HO
  isplitl [Hr]; · iexact Hr
  iapply (Entails.of_eq (pay_rcv m c st n 0)); iexact Hpay

/-! ## Sends -/

/-- What the sends from hop `n` on use up. -/
def SndTok (c : Dev nD) (st : Fin 4) (n : ℕ) : sProp 𝕄 :=
  bigSep (Finset.Ico n 30) fun i => iprop(dutyTok ER (cell c (kSnd st)) i 0
    ∗ dutyTok ER (cell (dst st c) (kRcv st (third i))) (i / 3) 0 ∗ writeTok ES (dst st c, st, third i) (i / 3 + 1))
/-- Before send `n`, and with send `n` on its way. -/
def SndI (c : Dev nD) (st : Fin 4) (n : ℕ) : sProp 𝕄 :=
  iprop(atPos ER (cell c (kSnd st)) n ∅ 0 ∗ reached ER (cell c (kSnd st)) n ∗ SndTok c st n)
def SndF (c : Dev nD) (st : Fin 4) (n : ℕ) : sProp 𝕄 :=
  iprop(atPos ER (cell c (kSnd st)) n ∅ 0 ∗ cred (tallyAt (cell c (kSnd st)) 0 N) ∗ SndTok c st (n + 1))

theorem left_step (c : Dev nD) (st : Fin 4) (n : ℕ) (hn : n < 30) (a b : Fin 4 → ℕ) :
    iprop(recs m K ι ∗ SndF c st n ∗ Ow c a b)
      ⊢ wpc c (left' st n) fun _ => iprop(SndI c st (n + 1) ∗ Ow c a b ∗ Has c (cV st 0) fullShare.left (blk m n c st)) := by
  unfold SndF SndI left'
  iintro ⟨#HR, ⟨Hat, Hc, Ht⟩, HO⟩
  iapply (last (round_wait m K ι c st (kSnd st) (sndS st) rfl n 0 0
    (if_pos (by omega)) rfl (le_refl _) (by omega) a b (fun _ => Nat.zero_le _) (fun _ => Nat.zero_le _) _ _ (cV_word st (slotOf n)) (cV_word st 0) rfl)) $$ [Hc Hat HO]
  · isplitr; · iexact HR
    isplitl [Hc]; · iexact Hc
    isplitl [Hat] <;> iassumption
  iintro ⟨Hat, Hr, HO, Hpay⟩
  isplitl [Hat Hr Ht]
  · isplitl [Hat]; · iexact Hat
    isplitl [Hr] <;> iassumption
  isplitl [HO]; · iexact HO
  iapply (Entails.of_eq (show pay m c n 0 (kSnd st) = Has c (cV st 0) fullShare.left (blk m n c st) from rfl)); iexact Hpay

theorem send_step (c : Dev nD) (st : Fin 4) (n : ℕ) (hn : n < 30) (a b : Fin 4 → ℕ) (hb : b st = n) :
    iprop(recs m K ι ∗ SndI c st n ∗ Room (dst st c) st n ∗ Has c (cV st 0) fullShare.left (blk m n c st) ∗ Ow c a b)
      ⊢ wpc c (send c st n) fun _ => iprop(SndF c st n ∗ Ow c a (Function.update b st (n + 1))) := by
  unfold SndF SndI send Prog.lift SndTok Ow
  rw [take_head hn]
  beta_reduce
  iintro ⟨#HR, ⟨Hat, Hr, ⟨⟨Ht1, Ht2, Hw⟩, Hts⟩⟩, Hroom, Hs, ⟨%W, HO⟩⟩
  unfold Room
  icases Hroom with ⟨Hrel, Hr2⟩
  imod (slot_take ES (S := keySlot (dst st c, st, third n)) (Set.mem_univ (ι (dst st c, st, third n))) (n / 3 + 1)) $$ [Hrel Hw] with Hslot
  · isplitr; · iapply (recs_slot m K ι (dst st c, st, third n)); iexact HR
    isplitl [Hrel]; · iexact Hrel
    iexact Hw
  unfold keySlot Any slot
  icases Hslot with ⟨%fd, Hd⟩
  unfold Has
  iapply (Rounds.wp_send_pointsTo 𝒱₀ ER (Rd m) (c : Thread nD τ) none (κ₁ := K (c, kSnd st)) (κ₂ := K (dst st c, kRcv st (third n)))
    (r₁ := n) (r₂ := n / 3) (d₁ := 0) (d₂ := 0) (fd := fd) (c' := (Dev.tc (dst st c) : Thread nD τ)) (sS := .dma (sndS st)) (sem := .dma (rcvS st (third n)))
    (src := cV st 0) (dst := cV st (slotOf n))
    (by rw [show ((c : Thread nD τ), SemLoc.dma (sndS st)) = cell c (kSnd st) from rfl, Rd_duties, show duty n (kSnd st) = {0} from if_pos hn]; exact Finset.mem_singleton_self _)
    (by rw [show ((Dev.tc (dst st c) : Thread nD τ), SemLoc.dma (rcvS st (third n))) = cell (dst st c) (kRcv st (third n)) from rfl, Rd_duties, show duty (n / 3) (kRcv st (third n)) = {0} from if_pos (by omega)]; exact Finset.mem_singleton_self _)
    (n + 1) 0 N rfl (Rd_amount m c (kSnd st) n 0) (Rd_amount m (dst st c) (kRcv st (third n)) (n / 3) 0)
    (rem c a (Function.update b st (n + 1))) (rem_send c a b st n hb hn) (W := W)
    (Entails.of_eq (Rd_payload m c (kSnd st) n 0).symm)
    ((Entails.of_eq (by rw [View.read_rep])).trans ((Has_written (dst st c) (cV st (slotOf n)) fullShare (blk m n c st) fd).trans
      (Entails.of_eq (((Rd_payload m (dst st c) (kRcv st (third n)) (n / 3) 0).trans (pay_rcv m (dst st c) st n 0)).trans (by rw [src_dst])).symm)))) $$ [Hr Ht1 Ht2 Hr2 Hs Hd HO]
  · isplitr; · iapply (recs_cell m K ι c (kSnd st)); iexact HR
    isplitr; · iapply (recs_cell m K ι (dst st c) (kRcv st (third n))); iexact HR
    isplitl [Hs]; · iexact Hs
    isplitl [Hd]; · iexact Hd
    isplitl [HO]; · iexact HO
    isplitl [Ht1]; · iexact Ht1
    isplitl [Hr]; · iexact Hr
    isplitl [Ht2]; · iexact Ht2
    iexact Hr2
  iintro ⟨Hc, HO⟩
  rw [wp_ret]
  imodintro
  isplitl [Hat Hc Hts]
  · isplitl [Hat]; · iexact Hat
    isplitl [Hc]; · iexact Hc
    iexact Hts
  iexists _; iexact HO

/-! ## Fetches -/

/-- The semaphore of the fetches before fetch `n`. -/
def FxCore (c : Dev nD) (st : Fin 4) (n : ℕ) : sProp 𝕄 :=
  iprop(atPos ER (cell c (kX st)) n ∅ 0 ∗ reached ER (cell c (kX st)) n
    ∗ bigSep (Finset.Ico n 16) fun i => dutyTok ER (cell c (kX st)) i 0)
/-- The stream's share of the argument. -/
def XAll (c : Dev nD) (st : Fin 4) : sProp 𝕄 := (c : Thread nD τ).loc main_arg0 ↦[Finset.univ]{xq st} m ((c : Thread nD τ).loc main_arg0)
/-- Fetch `n` on its way. -/
def FxFly (c : Dev nD) (st : Fin 4) (n : ℕ) : sProp 𝕄 :=
  iprop(atPos ER (cell c (kX st)) n ∅ 0 ∗ cred (tallyAt (cell c (kX st)) 0 N)
    ∗ (bigSep (Finset.Ico (n + 1) 16) fun i => dutyTok ER (cell c (kX st)) i 0)
    ∗ ((c : Thread nD τ).loc main_arg0 ↦[Finset.univ \ (xV c st n).view.set]{xq st} m ((c : Thread nD τ).loc main_arg0)))

/-- A memref's elements of a buffer hold what the buffer reads there. -/
theorem Has_eq (c : Dev nD) {sp : Space} {s : Shape} {e : EltTy} (v : Memref sig .tc sp s e) (q) (f : Buf (Elt F) (v.view.loc (c : Thread nD τ))) :
    (v.view.loc (c : Thread nD τ) ↦[v.view.set]{q} f : sProp 𝕄) = Has c v q (v.view.read (Elt F) f) := by
  unfold Has
  exact pointsTo_congr fun i hi => by
    obtain ⟨x, -, rfl⟩ := Finset.mem_map.mp hi
    rw [View.rep_emb, View.read_apply, cast_cast, cast_eq]

theorem x_split (c : Dev nD) (st : Fin 4) (n : ℕ) :
    XAll m c st ⊣⊢ iprop(Has c (xV c st n) (xq st) (xrows m c st n)
      ∗ ((c : Thread nD τ).loc main_arg0 ↦[Finset.univ \ (xV c st n).view.set]{xq st} m ((c : Thread nD τ).loc main_arg0))) := by
  unfold XAll xrows
  rw [← Has_eq c (xV c st n) (xq st) (m ((c : Thread nD τ).loc main_arg0))]
  exact pointsTo_split_subset (Finset.subset_univ _)

theorem fetch_step (c : Dev nD) (st : Fin 4) (n : ℕ) (hn : n < 16) :
    iprop(recs m K ι ∗ FxCore c st n ∗ XAll m c st ∗ Any c (bV st (par n))) ⊢ wpc c (fetch c st n) fun _ => FxFly m c st n := by
  unfold FxCore FxFly fetch Prog.lift Any slot
  rw [take_head hn]
  beta_reduce
  iintro ⟨#HR, ⟨Hat, Hr, ⟨Ht, Hts⟩⟩, Hx, ⟨%fd, Hd⟩⟩
  ihave Hx' := (x_split m c st n).1 $$ Hx
  icases Hx' with ⟨Hs, Hrest⟩
  unfold Has
  iapply (Rounds.wp_copy_pointsTo 𝒱₀ ER (Rd m) (c : Thread nD τ) none (κ := K (c, kX st)) (r := n) (d := 0) (fd := fd) (src := xV c st n) (dst := bV st (par n)) (sem := .dma (xS st))
    (by rw [show ((c : Thread nD τ), SemLoc.dma (xS st)) = cell c (kX st) from rfl, Rd_duties, show duty n (kX st) = {0} from if_pos hn]; exact Finset.mem_singleton_self _)
    0 N rfl (Rd_amount m c (kX st) n 0)
    ((sep_mono_left ((Entails.of_eq (by rw [View.read_rep])).trans (Has_written c (bV st (par n)) fullShare (xrows m c st n) fd))).trans
      (Entails.of_eq (Rd_payload m c (kX st) n 0).symm))) $$ [Hr Ht Hs Hd]
  · isplitr; · iapply (recs_cell m K ι c (kX st)); iexact HR
    isplitl [Hs]; · iexact Hs
    isplitl [Hd]; · iexact Hd
    isplitl [Ht]; · iexact Ht
    iexact Hr
  iintro Hc
  rw [wp_ret]
  imodintro
  isplitl [Hat]; · iexact Hat
  isplitl [Hc]; · iexact Hc
  isplitl [Hts] <;> iassumption

theorem fetched_step (c : Dev nD) (st : Fin 4) (n : ℕ) (hn : n < 16) (a b : Fin 4 → ℕ) :
    iprop(recs m K ι ∗ FxFly m c st n ∗ Ow c a b)
      ⊢ wpc c (fetched c st n) fun _ => iprop(FxCore c st (n + 1) ∗ XAll m c st ∗ Has c (bV st (par n)) fullShare (xrows m c st n) ∗ Ow c a b) := by
  unfold FxFly FxCore fetched
  iintro ⟨#HR, ⟨Hat, Hc, Ht, Hrest⟩, HO⟩
  iapply (last (round_wait m K ι c st (kX st) (xS st) rfl n 0 0
    (if_pos (by omega)) rfl (le_refl _) (by omega) a b (fun _ => Nat.zero_le _) (fun _ => Nat.zero_le _) _ _ (xV_word c st n) (bV_word st (par n)) rfl)) $$ [Hc Hat HO]
  · isplitr; · iexact HR
    isplitl [Hc]; · iexact Hc
    isplitl [Hat] <;> iassumption
  iintro ⟨Hat, Hr, HO, Hpay⟩
  ihave Hp := (Entails.of_eq (show pay m c n 0 (kX st) = iprop(Has c (bV st (par n)) fullShare (xrows m c st n) ∗ Has c (xV c st n) (xq st) (xrows m c st n)) from rfl)) $$ Hpay
  icases Hp with ⟨Hb, Hs⟩
  isplitl [Hat Hr Ht]
  · isplitl [Hat]; · iexact Hat
    isplitl [Hr] <;> iassumption
  isplitl [Hs Hrest]
  · iapply (x_split m c st n).2
    isplitl [Hs] <;> iassumption
  isplitl [Hb] <;> iassumption

/-! ## Copies into the result -/

/-- Before copy `r`, and with copy `r` on its way: the rows written so far, and those still to write. -/
def Outs (c : Dev nD) (st : Fin 4) (r r' : ℕ) : sProp 𝕄 :=
  iprop((bigSep (Finset.range r) fun i => Has c (oV c st (15 + i)) fullShare (blk m (15 + i) c st))
    ∗ bigSep (Finset.Ico r' 16) fun i => iprop(Any c (oV c st (15 + i)) ∗ dutyTok ER (cell c (kO st)) i 0))
def OutI (c : Dev nD) (st : Fin 4) (r : ℕ) : sProp 𝕄 :=
  iprop(atPos ER (cell c (kO st)) r ∅ 0 ∗ reached ER (cell c (kO st)) r ∗ Outs m c st r r)
def OutF (c : Dev nD) (st : Fin 4) (r : ℕ) : sProp 𝕄 :=
  iprop(atPos ER (cell c (kO st)) r ∅ 0 ∗ cred (tallyAt (cell c (kO st)) 0 N) ∗ Outs m c st r (r + 1))

theorem put_step (c : Dev nD) (st : Fin 4) (r : ℕ) (hr : r < 16) :
    iprop(recs m K ι ∗ OutI m c st r ∗ Has c (cV st (oslot r)) fullShare.right (blk m (15 + r) c st))
      ⊢ wpc c (put c st (oslot r) (15 + r)) fun _ => OutF m c st r := by
  unfold OutI OutF Outs put Prog.lift
  rw [take_head hr]
  beta_reduce
  iintro ⟨#HR, ⟨Hat, Hr, ⟨Hdone, ⟨⟨Hd, Ht⟩, Hts⟩⟩⟩, Hs⟩
  unfold Any slot
  icases Hd with ⟨%fd, Hd⟩
  unfold Has
  iapply (Rounds.wp_copy_pointsTo 𝒱₀ ER (Rd m) (c : Thread nD τ) none (κ := K (c, kO st)) (r := r) (d := 0) (fd := fd) (src := cV st (oslot r)) (dst := oV c st (15 + r)) (sem := .dma (oS st))
    (by rw [show ((c : Thread nD τ), SemLoc.dma (oS st)) = cell c (kO st) from rfl, Rd_duties, show duty r (kO st) = {0} from if_pos hr]; exact Finset.mem_singleton_self _)
    0 N rfl (Rd_amount m c (kO st) r 0)
    ((sep_mono_left ((Entails.of_eq (by rw [View.read_rep])).trans (Has_written c (oV c st (15 + r)) fullShare (blk m (15 + r) c st) fd))).trans
      (Entails.of_eq (Rd_payload m c (kO st) r 0).symm))) $$ [Hr Ht Hs Hd]
  · isplitr; · iapply (recs_cell m K ι c (kO st)); iexact HR
    isplitl [Hs]; · iexact Hs
    isplitl [Hd]; · iexact Hd
    isplitl [Ht]; · iexact Ht
    iexact Hr
  iintro Hc
  rw [wp_ret]
  imodintro
  isplitl [Hat]; · iexact Hat
  isplitl [Hc]; · iexact Hc
  isplitl [Hdone] <;> iassumption

theorem putDone_step (c : Dev nD) (st : Fin 4) (r : ℕ) (hr : r < 16) (a b : Fin 4 → ℕ) :
    iprop(recs m K ι ∗ OutF m c st r ∗ Ow c a b)
      ⊢ wpc c (putDone c st (oslot r) (15 + r)) fun _ => iprop(OutI m c st (r + 1) ∗ Has c (cV st (oslot r)) fullShare.right (blk m (15 + r) c st) ∗ Ow c a b) := by
  unfold OutF OutI Outs putDone
  rw [take_last]
  beta_reduce
  iintro ⟨#HR, ⟨Hat, Hc, ⟨Hdone, Hts⟩⟩, HO⟩
  iapply (last (round_wait m K ι c st (kO st) (oS st) rfl r 0 0
    (if_pos (by omega)) rfl (le_refl _) (by omega) a b (fun _ => Nat.zero_le _) (fun _ => Nat.zero_le _) _ _ (cV_word st (oslot r)) (oV_word c st (15 + r)) rfl)) $$ [Hc Hat HO]
  · isplitr; · iexact HR
    isplitl [Hc]; · iexact Hc
    isplitl [Hat] <;> iassumption
  iintro ⟨Hat, Hr, HO, Hpay⟩
  ihave Hp := (Entails.of_eq (show pay m c r 0 (kO st) = iprop(Has c (oV c st (15 + r)) fullShare (blk m (15 + r) c st) ∗ Has c (cV st (oslot r)) fullShare.right (blk m (15 + r) c st)) from rfl)) $$ Hpay
  icases Hp with ⟨Hb, Hs⟩
  isplitl [Hat Hr Hts Hdone Hb]
  · isplitl [Hat]; · iexact Hat
    isplitl [Hr]; · iexact Hr
    isplitl [Hdone Hb]
    · isplitl [Hb] <;> iassumption
    iexact Hts
  isplitl [Hs] <;> iassumption

/-! ## Credits -/

/-- The credits a stream still gives. -/
def Sig (c : Dev nD) (st : Fin 4) (j : ℕ) : sProp 𝕄 := bigSep (Finset.Ico j 27) fun i => dutyTok ER (cell (src st c) (kCrd st)) 0 i
/-- The news gathered from the blocks read so far. -/
def Rooms (c : Dev nD) (st : Fin 4) (n : ℕ) : sProp 𝕄 := bigSep (Finset.range n) fun i => Room c st (i + 3)
instance Rooms_persistent (c : Dev nD) (st : Fin 4) (n : ℕ) : BI.Persistent (Rooms c st n : sProp 𝕄) := by unfold Rooms; infer_instance

theorem signal_step (c : Dev nD) (st : Fin 4) (j : ℕ) (hj : j < 27) (a b : Fin 4 → ℕ) (ha : a st = j + 2) :
    iprop(recs m K ι ∗ Sig c st j ∗ Rooms c st (j + 1) ∗ Ow c a b)
      ⊢ wpc c (semSignalWord (src st c) (crdS st) 1#32) fun _ => iprop(Sig c st (j + 1) ∗ Ow c (Function.update a st (j + 3)) b) := by
  unfold Sig Ow semSignalWord
  rw [take_head hj]
  beta_reduce
  have hdue : dueS c st (j + 2) = tallyAt (cell (src st c) (kCrd st)) (j + 3) 1 := if_pos ⟨by omega, by omega⟩
  have hpay : Rooms c st (j + 1) = (Rd (F := F) m).payload (cell (src st c) (kCrd st)) 0 j := by
    rw [Rd_payload]
    show _ = crdPay (src st c) st j
    unfold crdPay Rooms; rw [dst_src]
  have hpay' : (Rooms c st (j + 1) : sProp 𝕄) ⊢ (Rd (F := F) m).payload ((src st c : Thread nD τ), SemLoc.reg (crdS st)) 0 j := Entails.of_eq hpay
  iintro ⟨#HR, ⟨Ht, Hts⟩, Hn, ⟨%W, HO⟩⟩
  iapply (Rounds.wp_signal 𝒱₀ ER (Rd m) (c : Thread nD τ) none (dst := (src st c : Thread nD τ)) (κ := K (src st c, kCrd st)) (r := 0) (d := j) (sem := crdS st)
    (by rw [show ((src st c : Thread nD τ), SemLoc.reg (crdS st)) = cell (src st c) (kCrd st) from rfl, Rd_duties]; exact Finset.mem_range.mpr hj)
    (Rd_amount m (src st c) (kCrd st) 0 j) (j + 3) (rem c (Function.update a st (j + 3)) b)
    ((rem_signal c a b st (j + 2) ha (by omega)).trans (by rw [hdue]; rfl)) (W := W)) $$ [HO Ht Hn]
  · isplitr; · iapply (recs_cell m K ι (src st c) (kCrd st)); iexact HR
    isplitl [HO]; · iexact HO
    isplitl [Ht]; · iexact Ht
    isplitl [Hn]; · iapply hpay'; iexact Hn
    iapply (recs_reached m K ι (src st c) (kCrd st)); iexact HR
  iintro HO
  rw [wp_ret]
  imodintro
  isplitl [Hts]; · iexact Hts
  iexists _; iexact HO

/-- The credits a stream still waits for, and how far its semaphore has come. -/
def Crd (c : Dev nD) (st : Fin 4) (k : ℕ) : sProp 𝕄 :=
  iprop((bigSep (Finset.Ico k 27) fun i => cred (tallyAt (cell c (kCrd st)) (i + 3) 1))
    ∗ if k < 27 then iprop(∃ T : Finset ℕ, ⌜T ⊆ Finset.range 27⌝ ∗ atPos ER (cell c (kCrd st)) 0 T k ∗ bigSep T fun j => crdPay c st j)
      else atPos ER (cell c (kCrd st)) 1 ∅ 0)

instance crdPay_persistent (c : Dev nD) (st : Fin 4) (j : ℕ) : BI.Persistent (crdPay c st j : sProp 𝕄) := by unfold crdPay; infer_instance

/-- Among more than `k` credits one says that block `k` has been read. -/
theorem crd_room (c : Dev nD) (st : Fin 4) (k : ℕ) (S : Finset ℕ) (hk : k < S.card) :
    (bigSep S fun j => crdPay c st j : sProp 𝕄) ⊢ Room (dst st c) st (k + 3) := by
  obtain ⟨j, hj, hkj⟩ : ∃ j ∈ S, k ≤ j := by
    by_contra hno
    have hsub : S ⊆ Finset.range k := fun j hj => Finset.mem_range.mpr (Nat.lt_of_not_le fun hle => hno ⟨j, hj, hle⟩)
    have := Finset.card_le_card hsub
    rw [Finset.card_range] at this; omega
  refine (one_of hj fun j => crdPay c st j).trans ?_
  unfold crdPay
  exact one_of (Finset.mem_range.mpr (show k < j + 1 by omega)) fun i => Room (dst st c) st (i + 3)

theorem credit_step (c : Dev nD) (st : Fin 4) (k : ℕ) (hk : k < 27) (a b : Fin 4 → ℕ) (ha : ∀ s, k + 3 ≤ a s) (hb : ∀ s, k + 3 ≤ b s) :
    iprop(recs m K ι ∗ Crd c st k ∗ Ow c a b)
      ⊢ wpc c (semWaitWord (crdS st) 1#32) fun _ => iprop(Crd c st (k + 1) ∗ Room (dst st c) st (k + 3) ∗ Ow c a b) := by
  have hpay (r j : ℕ) : pay m c r j (kCrd st) = crdPay c st j := rfl
  have hex : (Rd (F := F) m).expect ((c : Thread nD τ), SemLoc.reg (crdS st)) 0 = 27 :=
    (Rd_expect m c (kCrd st) 0).trans (by rw [show duty 0 (kCrd st) = Finset.range 27 from rfl, Finset.card_range, show amt (kCrd st) = 1 from rfl])
  have hdu : (Rd (F := F) m).duties ((c : Thread nD τ), SemLoc.reg (crdS st)) 0 = Finset.range 27 := Rd_duties m c (kCrd st) 0
  have hmw := (recs_levels m K ι).trans (may_wait (F := F) c (.reg (crdS st)) (k + 3) (k + 3) a b (le_refl _) (by omega) ha hb)
  have hpl (S : Finset ℕ) : (bigSep S fun d => (Rd (F := F) m).payload ((c : Thread nD τ), SemLoc.reg (crdS st)) 0 d) ⊢ (bigSep S fun j => crdPay c st j : sProp 𝕄) :=
    Entails.of_eq (bigSep_congr fun d _ => Rd_payload m c (kCrd st) 0 d)
  have hjoin (T S : Finset ℕ) (h : T ⊆ S) : iprop((bigSep T fun j => crdPay c st j) ∗ bigSep (S \ T) fun j => crdPay c st j) ⊢ (bigSep S fun j => crdPay c st j : sProp 𝕄) :=
    Entails.of_eq (bigSep_sdiff_split h).symm
  unfold Crd Ow semWaitWord
  rw [take_head hk, if_pos hk]
  beta_reduce
  iintro ⟨#HR, ⟨⟨Hc, Hcs⟩, ⟨%T, %hT, Hat, #HT⟩⟩, ⟨%W, HO⟩⟩
  by_cases hl : k + 1 < 27
  · rw [if_pos hl]
    iapply (Rounds.wp_wait 𝒱₀ ER (Rd m) (c : Thread nD τ) none (κ := K (c, kCrd st)) (k' := 1) (cr := Finsupp.single (k + 3) 1)
      (wpE_semWait_eq 𝒱₀ (c : Thread nD τ) none Set.univ) (Set.mem_univ _) {(SemLoc.reg (crdS st), k + 3)} (O := rem c a b) (W := W) (R := 0) (m := k) (T := T)
      (by rw [Util.total_single]) (image_single_subset _ _ _)) $$ [Hc HO Hat]
    · isplitr; · iapply (recs_cell m K ι c (kCrd st)); iexact HR
      isplitl [Hc]; · iexact Hc
      isplitl [HO]; · iexact HO
      isplitr; · iapply hmw; iexact HR
      iexact Hat
    iintro %S ⟨%hS, HO, Hat, HSp⟩
    obtain ⟨hTS, hSd, hcard⟩ := hS
    rw [hdu] at hSd
    rw [hdu, hex] at hcard
    have hsd := Finset.card_sdiff_add_card_eq_card hSd
    rw [Finset.card_range] at hsd
    ihave HSp' := (hpl (S \ T)) $$ HSp
    ihave #HS := (hjoin T S hTS) $$ [HSp']
    · isplitr; · iexact HT
      iexact HSp'
    rw [wp_ret]
    imodintro
    isplitl [Hcs Hat]
    · isplitl [Hcs]; · iexact Hcs
      iexists S
      isplitr; · ipureintro; exact hSd
      isplitl [Hat]; · iexact Hat
      iexact HS
    isplitr
    · iapply (crd_room c st k S (by omega)); iexact HS
    iexists _; iexact HO
  · have hk26 : k = 26 := by omega
    have hpl' : (bigSep ((Rd (F := F) m).duties ((c : Thread nD τ), SemLoc.reg (crdS st)) 0 \ T) fun d => (Rd (F := F) m).payload ((c : Thread nD τ), SemLoc.reg (crdS st)) 0 d)
        ⊢ (bigSep (Finset.range 27 \ T) fun j => crdPay c st j : sProp 𝕄) := by rw [hdu]; exact hpl _
    rw [if_neg hl]
    iapply (Rounds.wp_wait_rest_token 𝒱₀ ER (Rd m) (c : Thread nD τ) none (κ := K (c, kCrd st)) (k' := 1)
      (wpE_semWait_eq 𝒱₀ (c : Thread nD τ) none Set.univ) (Set.mem_univ _) (k + 3) (O := rem c a b) (W := W) (R := 0) (m := k) (T := T)
      (by rw [hex, hk26])) $$ [Hc HO Hat]
    · isplitr; · iapply (recs_cell m K ι c (kCrd st)); iexact HR
      isplitl [Hc]; · iexact Hc
      isplitl [HO]; · iexact HO
      isplitr; · iapply hmw; iexact HR
      iexact Hat
    iintro ⟨HO, Hat, -, HSp⟩
    ihave HSp' := hpl' $$ HSp
    ihave #HS := (hjoin T (Finset.range 27) hT) $$ [HSp']
    · isplitr; · iexact HT
      iexact HSp'
    rw [wp_ret]
    imodintro
    isplitl [Hcs Hat]
    · isplitl [Hcs]; · iexact Hcs
      iexact Hat
    isplitr
    · iapply (crd_room c st k (Finset.range 27) (by rw [Finset.card_range]; omega)); iexact HS
    iexists _; iexact HO

/-! ## Giving a slot back -/

/-- The reader's side of a stream's slots after `n` blocks have been read. -/
def Rdr (c : Dev nD) (st : Fin 4) (n : ℕ) : sProp 𝕄 := bigSep Finset.univ fun p => readerAt ES (c, st, p) (rnd n p + 1)

theorem slot_single (c : Dev nD) (st p : Fin 4) : iprop(Any c (cV st p) ∗ Any c (cV st p)) ⊢ (False : sProp 𝕄) :=
  slot_slot_false (Finset.Nonempty.map ⟨fun a => ⟨0, by fin_cases a <;> decide⟩, Finset.mem_univ _⟩)

theorem release_step (c : Dev nD) (st : Fin 4) (n : ℕ) :
    iprop(recs m K ι ∗ Rdr c st n ∗ Any c (cV st (slotOf n))) ⊢ |={Set.univ}=> iprop(Rdr c st (n + 1) ∗ released ES (c, st, third n) (n / 3 + 2)) := by
  unfold Rdr
  iintro ⟨#HR, Hr, Hs⟩
  ihave Hr' := (bump (fun p r => readerAt ES (c, st, p) (r + 1)) n) $$ Hr
  icases Hr' with ⟨Hr, Hback⟩
  imod (slot_release ES (S := keySlot (c, st, third n)) (Set.mem_univ (ι (c, st, third n))) (slot_single c st (slotS (third n))) (n / 3 + 1)) $$ [Hr Hs] with ⟨Hr, Hrel⟩
  · isplitr; · iapply (recs_slot m K ι (c, st, third n)); iexact HR
    isplitl [Hr]; · iexact Hr
    iexact Hs
  imodintro
  isplitl [Hr Hback]
  · iapply Hback; iexact Hr
  iexact Hrel

/-- A block read and its slot given back: the news for the sender. -/
theorem room_of (c : Dev nD) (st : Fin 4) (n : ℕ) :
    iprop(released ES (c, st, third n) (n / 3 + 2) ∗ reached ER (cell c (kRcv st (third n))) (n / 3 + 1)) ⊢ (Room c st (n + 3) : sProp 𝕄) := by
  have h3 : third (n + 3) = third n := Fin.ext (Nat.add_mod_right n 3)
  have hd : (n + 3) / 3 = n / 3 + 1 := by omega
  unfold Room
  rw [h3, hd]

/-! ## Loads and stores -/

theorem cV_set (st p : Fin 4) : (cM.access (cR st p)).set = (cV st p).view.set := (View.set_reshape _ _).symm
theorem bV_set (st : Fin 4) (p : Fin 2) : (bM.access (bR st p)).set = (bV st p).view.set := (View.set_reshape _ _).symm

theorem cV_read (st p : Fin 4) (f : cM.view.ty.Contents (Elt F)) :
    shapeCast S64x1024 ((cM.access (cR st p)).read (Elt F) f) shapeCasts_S1x1x64x1024_S64x1024 = (cV st p).view.read (Elt F) f := rfl
theorem bV_read (st : Fin 4) (p : Fin 2) (f : bM.view.ty.Contents (Elt F)) :
    shapeCast S64x1024 ((bM.access (bR st p)).read (Elt F) f) shapeCasts_S1x1x64x1024_S64x1024 = (bV st p).view.read (Elt F) f := rfl

theorem loadC_step (c : Dev nD) (st p : Fin 4) (q : PosShare TreeShare) (X : FVec F S64x1024 .f32) :
    (Has c (cV st p) q X : sProp 𝕄) ⊢ wpc c (loadC st p) fun v => iprop(⌜shapeCast S64x1024 v shapeCasts_S1x1x64x1024_S64x1024 = X⌝ ∗ Has c (cV st p) q X) := by
  unfold loadC Prog.lift Has
  iintro H
  iapply (wp_load_rect 𝒱₀ (c : Thread nD τ) none Set.univ (m := cM) (r := cR st p) (S := (cV st p).view.set) (by rw [cV_set])) $$ H
  iintro H
  rw [wp_ret]
  imodintro
  isplitr
  · ipureintro
    exact (cV_read st p ((cV st p).view.rep X)).trans (View.read_rep (Val := Elt F) (v := (cV st p).view) X)
  iexact H

theorem loadB_step (c : Dev nD) (st : Fin 4) (p : Fin 2) (q : PosShare TreeShare) (X : FVec F S64x1024 .f32) :
    (Has c (bV st p) q X : sProp 𝕄) ⊢ wpc c (loadB st p) fun v => iprop(⌜shapeCast S64x1024 v shapeCasts_S1x1x64x1024_S64x1024 = X⌝ ∗ Has c (bV st p) q X) := by
  unfold loadB Prog.lift Has
  iintro H
  iapply (wp_load_rect 𝒱₀ (c : Thread nD τ) none Set.univ (m := bM) (r := bR st p) (S := (bV st p).view.set) (by rw [bV_set])) $$ H
  iintro H
  rw [wp_ret]
  imodintro
  isplitr
  · ipureintro
    exact (bV_read st p ((bV st p).view.rep X)).trans (View.read_rep (Val := Elt F) (v := (bV st p).view) X)
  iexact H

theorem loadC_any (c : Dev nD) (st p : Fin 4) : (Any c (cV st p) : sProp 𝕄) ⊢ wpc c (loadC (F := F) st p) fun _ => Any c (cV st p) := by
  unfold loadC Prog.lift Any slot
  iintro ⟨%f, H⟩
  iapply (wp_load_rect 𝒱₀ (c : Thread nD τ) none Set.univ (m := cM) (r := cR st p) (S := (cV st p).view.set) (by rw [cV_set])) $$ H
  iintro H
  rw [wp_ret]
  imodintro
  iexists _; iexact H

theorem storeC_step (c : Dev nD) (st : Fin 4) (v : FVec F S1x1x64x1024 .f32) (X : FVec F S64x1024 .f32)
    (hX : shapeCast S64x1024 v shapeCasts_S1x1x64x1024_S64x1024 = X) :
    (Any c (cV st 0) : sProp 𝕄) ⊢ wpc c (storeC st v) fun _ => Has c (cV st 0) fullShare X := by
  unfold storeC Prog.lift Any slot
  iintro ⟨%f, H⟩
  iapply (wp_store 𝒱₀ (c : Thread nD τ) none Set.univ (m := cM) (r := cR st 0) (S := (cV st 0).view.set)
    (by rw [View.setOn_univ, cV_set])) $$ H
  iintro H
  rw [wp_ret]
  imodintro
  iapply (Has_intro c (cV st 0) fullShare X ((cM.access (cR st 0)).write (Elt F) f v Finset.univ) (by
    rw [← hX]
    show (fun j => (cM.access (cR st 0)).read (Elt F) ((cM.access (cR st 0)).write (Elt F) f v Finset.univ) (Shape.reshapeEquiv _ j)) = _
    rw [View.read_write_univ]; rfl))
  iexact H

end Cert.RingProof

end
-- ==== Proof.Hop.lean ====
/-
# One hop of one stream

The resources of a stream between two hops, as functions of the number of the next hop, and how a hop
takes one set to the next. The operations that only some hops do are stated for every hop.
-/
module

public import proofs.«01_k».proof.Proof.Steps
public import Idealize.ShloMosaic.Lib.Pipeline.Value

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Dev nD × Kind → ℕ) (ι : Key → ℕ)

/-! ## Operations of some hops -/

theorem only_yes {p : Prop} [Decidable p] (h : p) (x : P F) : only p x = x := if_pos h
theorem only_no {c : Dev nD} {p : Prop} [Decidable p] (h : ¬p) (x : P F) {A : sProp 𝕄} : A ⊢ wpc c (only p x) fun _ => A := by
  unfold only; rw [if_neg h]
  unfold wpc
  show A ⊢ wp frame _ _ (Prog.ret PUnit.unit) _
  rw [wp_ret]
  iintro H
  imodintro
  iexact H

/-- What has just arrived. -/
def Landed (c : Dev nD) (st : Fin 4) (h : ℕ) : sProp 𝕄 :=
  if h = 0 then iprop(emp) else Has c (cV st (slotOf (h - 1))) fullShare (blk m (h - 1) (src st c) st)
/-- How far the arrivals have come. -/
def Came (c : Dev nD) (st : Fin 4) (h : ℕ) : sProp 𝕄 :=
  if h = 0 then iprop(emp) else reached ER (cell c (kRcv st (third (h - 1)))) ((h - 1) / 3 + 1)

theorem arrived_only (c : Dev nD) (st : Fin 4) (h : ℕ) (hh : h ≤ 30) (a b : Fin 4 → ℕ) (ha : ∀ s, h ≤ a s) (hb : ∀ s, h ≤ b s) :
    iprop(recs m K ι ∗ Arr c st (h - 1) ∗ Ow c a b)
      ⊢ wpc c (only (1 ≤ h) (arrived st (h - 1))) fun _ => iprop(Arr c st h ∗ Ow c a b ∗ Came c st h ∗ Landed m c st h) := by
  obtain _ | n := h
  · refine BIBase.Entails.trans ?_ (only_no (by omega) _)
    unfold Came Landed
    rw [if_pos rfl, if_pos rfl]
    iintro ⟨-, HA, HO⟩
    isplitl [HA]; · iexact HA
    isplitl [HO]; · iexact HO
    isplitl <;> iempintro
  · rw [only_yes (by omega)]
    unfold Came Landed
    rw [if_neg (Nat.succ_ne_zero n), if_neg (Nat.succ_ne_zero n)]
    exact arrived_step m K ι c st n (by omega) a b ha hb

/-- The sends before hop `h`. -/
def SndB (c : Dev nD) (st : Fin 4) (h : ℕ) : sProp 𝕄 := if h = 0 then SndI c st 0 else SndF c st (h - 1)
/-- The half of slot 0 that comes back from the last send. -/
def Back (c : Dev nD) (st : Fin 4) (h : ℕ) : sProp 𝕄 := if h = 0 then iprop(emp) else Has c (cV st 0) fullShare.left (blk m (h - 1) c st)

theorem left_only (c : Dev nD) (st : Fin 4) (h : ℕ) (hh : h ≤ 30) (a b : Fin 4 → ℕ) :
    iprop(recs m K ι ∗ SndB c st h ∗ Ow c a b)
      ⊢ wpc c (only (1 ≤ h) (left' st (h - 1))) fun _ => iprop(SndI c st h ∗ Ow c a b ∗ Back m c st h) := by
  unfold SndB Back
  obtain _ | n := h
  · refine BIBase.Entails.trans ?_ (only_no (by omega) _)
    rw [if_pos rfl, if_pos rfl]
    iintro ⟨-, HA, HO⟩
    isplitl [HA]; · iexact HA
    isplitl [HO]; · iexact HO
    iempintro
  · rw [only_yes (by omega), if_neg (Nat.succ_ne_zero n), if_neg (Nat.succ_ne_zero n)]
    exact left_step m K ι c st n (by omega) a b

/-- The copies into the result before hop `h`, and the half of slot 0 that is not being sent. -/
def OutB (c : Dev nD) (st : Fin 4) (h : ℕ) : sProp 𝕄 := if h ≤ 15 then OutI m c st 0 else OutF m c st (h - 16)
def Idle (c : Dev nD) (st : Fin 4) (h : ℕ) : sProp 𝕄 :=
  if h = 0 then Any c (cV st 0) else Has c (cV st 0) fullShare.right (blk m (h - 1) c st)
def IdleB (c : Dev nD) (st : Fin 4) (h : ℕ) : sProp 𝕄 := if h ≤ 15 then Idle m c st h else iprop(emp)

theorem oslot_zero {r : ℕ} (h : r ≠ 15) : oslot r = 0 := if_neg h

theorem putDone_only (c : Dev nD) (st : Fin 4) (h : ℕ) (hh : h ≤ 30) (a b : Fin 4 → ℕ) :
    iprop(recs m K ι ∗ OutB m c st h ∗ IdleB m c st h ∗ Ow c a b)
      ⊢ wpc c (only (16 ≤ h) (putDone c st 0 (h - 1))) fun _ => iprop(OutI m c st (h - 15) ∗ Idle m c st h ∗ Ow c a b) := by
  unfold OutB IdleB
  by_cases h15 : h ≤ 15
  · refine BIBase.Entails.trans ?_ (only_no (by omega) _)
    rw [if_pos h15, if_pos h15, Nat.sub_eq_zero_of_le h15]
    iintro ⟨-, HA, HI, HO⟩
    isplitl [HA]; · iexact HA
    isplitl [HI] <;> iassumption
  · obtain ⟨r, rfl⟩ : ∃ r, h = r + 16 := ⟨h - 16, by omega⟩
    rw [only_yes (by omega), if_neg h15, if_neg h15]
    unfold Idle
    rw [if_neg (by omega)]
    have h1 := putDone_step m K ι c st r (by omega) a b
    rw [oslot_zero (by omega), show 15 + r = r + 16 - 1 by omega] at h1
    rw [show r + 16 - 16 = r by omega, show r + 16 - 15 = r + 1 by omega]
    refine BIBase.Entails.trans ?_ h1
    iintro ⟨HR, HA, -, HO⟩
    isplitl [HR]; · iexact HR
    isplitl [HA] <;> iassumption

/-- Both halves of slot 0. -/
theorem slot0_any (c : Dev nD) (st : Fin 4) (h : ℕ) : iprop(Back m c st h ∗ Idle m c st h) ⊢ (Any c (cV st 0) : sProp 𝕄) := by
  unfold Back Idle
  by_cases h0 : h = 0
  · rw [if_pos h0, if_pos h0]
    iintro ⟨-, H⟩
    iexact H
  · rw [if_neg h0, if_neg h0]
    exact (Has_halves c (cV st 0) (blk m (h - 1) c st)).2.trans (Has_any c (cV st 0) _)

/-- The fetch buffer of hop `h`, and the fetches before hop `h` and in it. -/
def Buf' (c : Dev nD) (st : Fin 4) (h : ℕ) : sProp 𝕄 :=
  if h ≤ 15 then Has c (bV st (par h)) fullShare (xrows m c st h) else Any c (bV st (par h))
theorem Buf_any (c : Dev nD) (st : Fin 4) (h : ℕ) : Buf' m c st h ⊢ (Any c (bV st (par h)) : sProp 𝕄) := by
  unfold Buf'
  split
  · exact Has_any _ _ _
  · exact BI.Entails.refl _
def FxB (c : Dev nD) (st : Fin 4) (h : ℕ) : sProp 𝕄 :=
  iprop((if h ≤ 15 then FxFly m c st h else iprop(FxCore c st 16 ∗ XAll m c st ∗ Any c (bV st (par h)))) ∗ Any c (bV st (par (h + 1))))
def FxM (c : Dev nD) (st : Fin 4) (h : ℕ) : sProp 𝕄 :=
  iprop(FxCore c st (min (h + 1) 16) ∗ XAll m c st ∗ Any c (bV st (par (h + 1))))

theorem fetched_only (c : Dev nD) (st : Fin 4) (h : ℕ) (a b : Fin 4 → ℕ) :
    iprop(recs m K ι ∗ FxB m c st h ∗ Ow c a b) ⊢ wpc c (only (h ≤ 15) (fetched c st h)) fun _ => iprop(FxM m c st h ∗ Buf' m c st h ∗ Ow c a b) := by
  unfold FxB FxM Buf'
  by_cases h15 : h ≤ 15
  · rw [only_yes h15, if_pos h15, if_pos h15, Nat.min_eq_left (by omega)]
    iintro ⟨HR, ⟨HF, Hb⟩, HO⟩
    iapply (last (fetched_step m K ι c st h (by omega) a b)) $$ [HR HF HO]
    · isplitl [HR]; · iexact HR
      isplitl [HF] <;> iassumption
    iintro ⟨HF, HX, HB, HO⟩
    isplitl [HF HX Hb]
    · isplitl [HF]; · iexact HF
      isplitl [HX] <;> iassumption
    isplitl [HB] <;> iassumption
  · refine BIBase.Entails.trans ?_ (only_no h15 _)
    rw [if_neg h15, if_neg h15, Nat.min_eq_right (by omega)]
    iintro ⟨-, ⟨⟨HF, HX, HB⟩, Hb⟩, HO⟩
    isplitl [HF HX Hb]
    · isplitl [HF]; · iexact HF
      isplitl [HX] <;> iassumption
    isplitl [HB] <;> iassumption

theorem fetch_only (c : Dev nD) (st : Fin 4) (h : ℕ) :
    iprop(recs m K ι ∗ FxM m c st h ∗ Buf' m c st h) ⊢ wpc c (only (h ≤ 14) (fetch c st (h + 1))) fun _ => FxB m c st (h + 1) := by
  have hpar : par (h + 1 + 1) = par h := Fin.ext (Nat.add_mod_right h 2)
  unfold FxM FxB
  rw [hpar]
  by_cases h14 : h ≤ 14
  · rw [only_yes h14, if_pos (by omega), Nat.min_eq_left (by omega)]
    iintro ⟨HR, ⟨HF, HX, Hb⟩, HB⟩
    iapply (last (fetch_step m K ι c st (h + 1) (by omega))) $$ [HR HF HX Hb]
    · isplitl [HR]; · iexact HR
      isplitl [HF]; · iexact HF
      isplitl [HX] <;> iassumption
    iintro HF
    isplitl [HF]; · iexact HF
    iapply (Buf_any m c st h); iexact HB
  · refine BIBase.Entails.trans ?_ (only_no h14 _)
    rw [if_neg (by omega), Nat.min_eq_right (by omega)]
    iintro ⟨-, ⟨HF, HX, Hb⟩, HB⟩
    isplitl [HF HX Hb]
    · isplitl [HF]; · iexact HF
      isplitl [HX] <;> iassumption
    iapply (Buf_any m c st h); iexact HB

/-! ## The block a hop sends -/

/-- Reading before a store, for nothing. -/
theorem over (c : Dev nD) (st : Fin 4) (v : FVec F S1x1x64x1024 .f32) (X : FVec F S64x1024 .f32)
    (hX : shapeCast S64x1024 v shapeCasts_S1x1x64x1024_S64x1024 = X) :
    (Any c (cV st 0) : sProp 𝕄) ⊢ wpc c (loadC st 0 >>= fun _ => storeC st v) fun _ => Has c (cV st 0) fullShare X := by
  unfold wpc
  rw [wp_bind]
  exact (loadC_any c st 0).trans (wp_mono frame _ _ fun _ => storeC_step c st v X hX)

theorem pass_cast (v : Vec F S1x1x64x1024 .f32) (X : FVec F S64x1024 .f32) (h : shapeCast S64x1024 v shapeCasts_S1x1x64x1024_S64x1024 = X) :
    shapeCast S64x1024 (pass v) shapeCasts_S1x1x64x1024_S64x1024 = X := by
  unfold pass; rw [shapeCast_shapeCast]; exact h
theorem plus_cast (v w : Vec F S1x1x64x1024 .f32) (X Y : FVec F S64x1024 .f32) (h : shapeCast S64x1024 v shapeCasts_S1x1x64x1024_S64x1024 = X)
    (h' : shapeCast S64x1024 w shapeCasts_S1x1x64x1024_S64x1024 = Y) :
    shapeCast S64x1024 (plus v w) shapeCasts_S1x1x64x1024_S64x1024 = addf X Y := by
  unfold plus; rw [shapeCast_shapeCast, h, h']

theorem make_step (c : Dev nD) (st : Fin 4) (h : ℕ) :
    iprop(Any c (cV st 0) ∗ Landed m c st h ∗ Buf' m c st h)
      ⊢ wpc c (make st h) fun _ => iprop(Has c (cV st 0) fullShare (blk m h c st) ∗ Landed m c st h ∗ Buf' m c st h) := by
  unfold Landed Buf' make wpc
  obtain _ | n := h
  · rw [if_pos rfl, if_pos (Nat.zero_le _), if_pos rfl, wp_bind]
    iintro ⟨H0, HL, HB⟩
    ihave Hw := (loadB_step c st (par 0) fullShare (xrows m c st 0)) $$ HB
    iapply (wp_wand frame (wpE (defs₀ (F := F)) 𝒱₀ (c : Thread nD τ) none) Set.univ) $$ Hw
    iintro %v ⟨%hv, HB⟩
    ihave Hs := (over c st (pass v) (xrows m c st 0) (pass_cast v _ hv)) $$ H0
    iapply (wp_wand frame (wpE (defs₀ (F := F)) 𝒱₀ (c : Thread nD τ) none) Set.univ) $$ Hs
    iintro %u H0
    isplitl [H0]; · iexact H0
    isplitl [HL] <;> iassumption
  · rw [if_neg (Nat.succ_ne_zero n), if_neg (Nat.succ_ne_zero n), show n + 1 - 1 = n from rfl]
    by_cases h15 : n + 1 ≤ 15
    · rw [if_pos h15, if_pos h15, wp_bind]
      iintro ⟨H0, HL, HB⟩
      ihave Hw := (loadC_step c st (slotOf n) fullShare (blk m n (src st c) st)) $$ HL
      iapply (wp_wand frame (wpE (defs₀ (F := F)) 𝒱₀ (c : Thread nD τ) none) Set.univ) $$ Hw
      iintro %v ⟨%hv, HL⟩
      rw [wp_bind]
      ihave Hw := (loadB_step c st (par (n + 1)) fullShare (xrows m c st (n + 1))) $$ HB
      iapply (wp_wand frame (wpE (defs₀ (F := F)) 𝒱₀ (c : Thread nD τ) none) Set.univ) $$ Hw
      iintro %w ⟨%hw, HB⟩
      ihave Hs := (over c st (plus v w) (blk m (n + 1) c st) ((plus_cast v w _ _ hv hw).trans (if_pos h15).symm)) $$ H0
      iapply (wp_wand frame (wpE (defs₀ (F := F)) 𝒱₀ (c : Thread nD τ) none) Set.univ) $$ Hs
      iintro %u H0
      isplitl [H0]; · iexact H0
      isplitl [HL] <;> iassumption
    · rw [if_neg h15, if_neg h15, wp_bind]
      iintro ⟨H0, HL, HB⟩
      ihave Hw := (loadC_step c st (slotOf n) fullShare (blk m n (src st c) st)) $$ HL
      iapply (wp_wand frame (wpE (defs₀ (F := F)) 𝒱₀ (c : Thread nD τ) none) Set.univ) $$ Hw
      iintro %v ⟨%hv, HL⟩
      ihave Hs := (over c st (pass v) (blk m (n + 1) c st) ((pass_cast v _ hv).trans (if_neg h15).symm)) $$ H0
      iapply (wp_wand frame (wpE (defs₀ (F := F)) 𝒱₀ (c : Thread nD τ) none) Set.univ) $$ Hs
      iintro %u H0
      isplitl [H0]; · iexact H0
      isplitl [HL] <;> iassumption

theorem put_only (c : Dev nD) (st : Fin 4) (h : ℕ) (hh : h < 30) :
    iprop(recs m K ι ∗ OutI m c st (h - 15) ∗ Has c (cV st 0) fullShare (blk m h c st))
      ⊢ wpc c (only (15 ≤ h) (put c st 0 h)) fun _ => iprop(OutB m c st (h + 1) ∗ IdleB m c st (h + 1) ∗ Has c (cV st 0) fullShare.left (blk m h c st)) := by
  unfold OutB IdleB Idle
  by_cases h15 : 15 ≤ h
  · obtain ⟨r, rfl⟩ : ∃ r, h = 15 + r := ⟨h - 15, by omega⟩
    rw [only_yes h15, if_neg (by omega), if_neg (by omega)]
    have h1 := put_step m K ι c st r (by omega)
    rw [oslot_zero (by omega)] at h1
    rw [show 15 + r - 15 = r by omega, show 15 + r + 1 - 16 = r by omega]
    iintro ⟨HR, HO, H0⟩
    ihave H0' := (Has_halves c (cV st 0) (blk m (15 + r) c st)).1 $$ H0
    icases H0' with ⟨Hl, Hr⟩
    iapply (last h1) $$ [HR HO Hr]
    · isplitl [HR]; · iexact HR
      isplitl [HO] <;> iassumption
    iintro HO
    isplitl [HO]; · iexact HO
    isplitr; · iempintro
    iexact Hl
  · refine BIBase.Entails.trans ?_ (only_no h15 _)
    rw [if_pos (by omega), if_pos (by omega), if_neg (Nat.succ_ne_zero h), Nat.sub_eq_zero_of_le (by omega), show h + 1 - 1 = h from rfl]
    iintro ⟨-, HO, H0⟩
    ihave H0' := (Has_halves c (cV st 0) (blk m h c st)).1 $$ H0
    icases H0' with ⟨Hl, Hr⟩
    isplitl [HO]; · iexact HO
    isplitl [Hr] <;> iassumption

/-! ## Blocks read -/

/-- After `n` blocks have been read: their slots given back, but for the last ones. -/
def Land (c : Dev nD) (st : Fin 4) (n : ℕ) : sProp 𝕄 :=
  iprop(Rdr c st (min n 27) ∗ Rooms c st (min n 27) ∗ bigSep (Finset.Ico 27 n) fun i => Any c (cV st (slotOf i)))

theorem ico_last {a n : ℕ} (h : a ≤ n) (Φ : ℕ → sProp 𝕄) : bigSep (Finset.Ico a (n + 1)) Φ = iprop(Φ n ∗ bigSep (Finset.Ico a n) Φ) := by
  rw [show Finset.Ico a (n + 1) = insert n (Finset.Ico a n) by ext x; rw [Finset.mem_insert, Finset.mem_Ico, Finset.mem_Ico]; omega]
  exact bigSep_insert (by rw [Finset.mem_Ico]; omega)

theorem land_step (c : Dev nD) (st : Fin 4) (h : ℕ) :
    iprop(recs m K ι ∗ Land c st (h - 1) ∗ Came c st h ∗ Landed m c st h) ⊢ |={Set.univ}=> Land c st h := by
  unfold Came Landed
  obtain _ | n := h
  · iintro ⟨-, H, -⟩
    imodintro
    iexact H
  · rw [if_neg (Nat.succ_ne_zero n), if_neg (Nat.succ_ne_zero n), show n + 1 - 1 = n from rfl]
    unfold Land
    iintro ⟨#HR, ⟨Hr, #Hn, Hk⟩, Hc, HL⟩
    ihave HL' := (Has_any c (cV st (slotOf n)) (blk m n (src st c) st)) $$ HL
    by_cases h27 : n < 27
    · rw [Nat.min_eq_left (by omega), Nat.min_eq_left (by omega)]
      imod (release_step m K ι c st n) $$ [Hr HL'] with ⟨Hr, Hrel⟩
      · isplitr; · iexact HR
        isplitl [Hr]; · iexact Hr
        iexact HL'
      imodintro
      isplitl [Hr]; · iexact Hr
      isplitl [Hrel Hc]
      · unfold Rooms
        rw [take_last]
        isplitl
        · iapply (room_of c st n)
          isplitl [Hrel] <;> iassumption
        iexact Hn
      rw [Finset.Ico_eq_empty (by omega), Finset.Ico_eq_empty (by omega)]
      iexact Hk
    · rw [Nat.min_eq_right (by omega), Nat.min_eq_right (by omega)]
      imodintro
      isplitl [Hr]; · iexact Hr
      isplitr; · iexact Hn
      rw [ico_last (by omega)]
      isplitl [HL']; · iexact HL'
      iexact Hk

/-! ## Credits -/

theorem Rooms_mono (c : Dev nD) (st : Fin 4) {n n' : ℕ} (h : n ≤ n') : (Rooms c st n' : sProp 𝕄) ⊢ Rooms c st n := by
  unfold Rooms
  refine bigSep_intro_persistent fun i hi => ?_
  have hi' := Finset.mem_range.mp hi
  exact one_of (Finset.mem_range.mpr (by omega)) fun i => Room c st (i + 3)

theorem Land_rooms (c : Dev nD) (st : Fin 4) (n : ℕ) : (Land c st n : sProp 𝕄) ⊢ iprop(Land c st n ∗ Rooms c st (min n 27)) := by
  unfold Land
  iintro ⟨H, #Hn, Hk⟩
  isplitl [H Hk]
  · isplitl [H]; · iexact H
    isplitr; · iexact Hn
    iexact Hk
  iexact Hn

theorem signal_only (c : Dev nD) (st : Fin 4) (h : ℕ) (hh : h < 30) (a b : Fin 4 → ℕ) (ha : a st = h) :
    iprop(recs m K ι ∗ Sig c st (h - 2) ∗ Rooms c st (min h 27) ∗ Ow c a b)
      ⊢ wpc c (only (2 ≤ h ∧ h ≤ 28) (semSignalWord (src st c) (crdS st) 1#32)) fun _ =>
        iprop(Sig c st (h - 1) ∗ Ow c (Function.update a st (h + 1)) b) := by
  by_cases h2 : 2 ≤ h ∧ h ≤ 28
  · obtain ⟨j, rfl⟩ : ∃ j, h = j + 2 := ⟨h - 2, by omega⟩
    rw [only_yes h2]
    refine BIBase.Entails.trans ?_ (signal_step m K ι c st j (by omega) a b ha)
    iintro ⟨HR, HS, HN, HO⟩
    isplitl [HR]; · iexact HR
    isplitl [HS]; · iexact HS
    isplitl [HN]; · iapply (Rooms_mono c st (show j + 1 ≤ min (j + 2) 27 by omega)); iexact HN
    iexact HO
  · refine BIBase.Entails.trans ?_ (only_no h2 _)
    have hs : (Sig c st (h - 2) : sProp 𝕄) = Sig c st (h - 1) := by
      unfold Sig
      rcases Nat.lt_or_ge h 2 with h1 | h1
      · rw [show h - 2 = h - 1 by omega]
      · rw [Finset.Ico_eq_empty (by omega), Finset.Ico_eq_empty (by omega)]
    have hr : rem c a b = rem c (Function.update a st (h + 1)) b := by
      rw [rem_signal c a b st h ha hh, show dueS c st h = 0 from if_neg h2, add_zero]
    rw [hs]
    unfold Ow
    rw [hr]
    iintro ⟨-, HS, -, HO⟩
    isplitl [HS] <;> iassumption

/-- The news from the barrier: a stream's first three slots. -/
def Early (c : Dev nD) (st : Fin 4) : sProp 𝕄 := bigSep (Finset.range 3) fun i => Room (dst st c) st i
instance Early_persistent (c : Dev nD) (st : Fin 4) : BI.Persistent (Early c st : sProp 𝕄) := by unfold Early; infer_instance

theorem credit_only (c : Dev nD) (st : Fin 4) (h : ℕ) (hh : h < 30) (a b : Fin 4 → ℕ) (ha : ∀ s, h ≤ a s) (hb : ∀ s, h ≤ b s) :
    iprop(recs m K ι ∗ Early c st ∗ Crd c st (h - 3) ∗ Ow c a b)
      ⊢ wpc c (only (3 ≤ h) (semWaitWord (crdS st) 1#32)) fun _ => iprop(Crd c st (h - 2) ∗ Room (dst st c) st h ∗ Ow c a b) := by
  by_cases h3 : 3 ≤ h
  · obtain ⟨k, rfl⟩ : ∃ k, h = k + 3 := ⟨h - 3, by omega⟩
    rw [only_yes h3]
    refine BIBase.Entails.trans ?_ (credit_step m K ι c st k (by omega) a b ha hb)
    iintro ⟨HR, -, HC, HO⟩
    isplitl [HR]; · iexact HR
    isplitl [HC]; · iexact HC
    iexact HO
  · refine BIBase.Entails.trans ?_ (only_no h3 _)
    rw [show h - 3 = h - 2 by omega]
    unfold Early
    iintro ⟨-, HE, HC, HO⟩
    isplitl [HC]; · iexact HC
    isplitl [HE]
    · iapply (one_of (Finset.mem_range.mpr (show h < 3 by omega)) (fun i => Room (dst st c) st i)); iexact HE
    iexact HO

/-! ## A whole hop -/

/-- A stream before hop `h`. -/
def St (c : Dev nD) (st : Fin 4) (h : ℕ) : sProp 𝕄 :=
  iprop(Arr c st (h - 1) ∗ SndB c st h ∗ OutB m c st h ∗ IdleB m c st h ∗ FxB m c st h ∗ Land c st (h - 1) ∗ Sig c st (h - 2) ∗ Crd c st (h - 3) ∗ Early c st)

theorem hop_step (c : Dev nD) (st : Fin 4) (h : ℕ) (hh : h < 30) (a b : Fin 4 → ℕ) (ha : ∀ s, h ≤ a s) (hb : ∀ s, h ≤ b s) (hae : a st = h) (hbe : b st = h) :
    iprop(recs m K ι ∗ St m c st h ∗ Ow c a b)
      ⊢ wpc c (hop c st h) fun _ => iprop(St m c st (h + 1) ∗ Ow c (Function.update a st (h + 1)) (Function.update b st (h + 1))) := by
  have ha' : ∀ s, h ≤ Function.update a st (h + 1) s := fun s => by
    rcases eq_or_ne s st with rfl | hs
    · rw [Function.update_self]; omega
    · rw [Function.update_of_ne hs]; exact ha s
  unfold St hop
  iintro ⟨#HR, ⟨HA, HS, HOut, HI, HX, HL, HSig, HC, #HE⟩, HO⟩
  iapply (after (arrived_only m K ι c st h (by omega) a b ha hb)) $$ [HA HO]
  · isplitr; · iexact HR
    isplitl [HA] <;> iassumption
  iintro ⟨HA, HO, HCame, HLand⟩
  iapply (after (left_only m K ι c st h (by omega) a b)) $$ [HS HO]
  · isplitr; · iexact HR
    isplitl [HS] <;> iassumption
  iintro ⟨HS, HO, HB⟩
  iapply (after (putDone_only m K ι c st h (by omega) a b)) $$ [HOut HI HO]
  · isplitr; · iexact HR
    isplitl [HOut]; · iexact HOut
    isplitl [HI] <;> iassumption
  iintro ⟨HOut, HI, HO⟩
  iapply (after (fetched_only m K ι c st h a b)) $$ [HX HO]
  · isplitr; · iexact HR
    isplitl [HX] <;> iassumption
  iintro ⟨HX, HBuf, HO⟩
  ihave H0 := (slot0_any m c st h) $$ [HB HI]
  · isplitl [HB] <;> iassumption
  iapply (after (make_step m c st h)) $$ [H0 HLand HBuf]
  · isplitl [H0]; · iexact H0
    isplitl [HLand] <;> iassumption
  iintro ⟨H0, HLand, HBuf⟩
  iapply (after (fetch_only m K ι c st h)) $$ [HX HBuf]
  · isplitr; · iexact HR
    isplitl [HX] <;> iassumption
  iintro HX
  iapply (after (put_only m K ι c st h hh)) $$ [HOut H0]
  · isplitr; · iexact HR
    isplitl [HOut] <;> iassumption
  iintro ⟨HOut, HI, H0⟩
  imod (land_step m K ι c st h) $$ [HL HCame HLand] with HL
  · isplitr; · iexact HR
    isplitl [HL]; · iexact HL
    isplitl [HCame] <;> iassumption
  ihave HL' := (Land_rooms c st h) $$ HL
  icases HL' with ⟨HL, HN⟩
  iapply (after (signal_only m K ι c st h hh a b hae)) $$ [HSig HN HO]
  · isplitr; · iexact HR
    isplitl [HSig]; · iexact HSig
    isplitl [HN] <;> iassumption
  iintro ⟨HSig, HO⟩
  iapply (after (credit_only m K ι c st h hh (Function.update a st (h + 1)) b ha' hb)) $$ [HC HO]
  · isplitr; · iexact HR
    isplitr; · iexact HE
    isplitl [HC] <;> iassumption
  iintro ⟨HC, HRoom, HO⟩
  iapply (last (send_step m K ι c st h hh (Function.update a st (h + 1)) b hbe)) $$ [HS HRoom H0 HO]
  · isplitr; · iexact HR
    isplitl [HS]; · iexact HS
    isplitl [HRoom]; · iexact HRoom
    isplitl [H0] <;> iassumption
  iintro ⟨HS, HO⟩
  isplitr [HO]
  · isplitl [HA]; · iexact HA
    isplitl [HS]
    · unfold SndB; rw [if_neg (Nat.succ_ne_zero h)]; iexact HS
    isplitl [HOut]; · iexact HOut
    isplitl [HI]; · iexact HI
    isplitl [HX]; · iexact HX
    isplitl [HL]; · iexact HL
    isplitl [HSig]; · iexact HSig
    isplitl [HC]; · iexact HC
    iexact HE
  iexact HO

/-- The four streams before hop `h`. -/
def All (c : Dev nD) (h : ℕ) : sProp 𝕄 :=
  iprop(St m c 0 h ∗ St m c 1 h ∗ St m c 2 h ∗ St m c 3 h ∗ Ow c (fun _ => h) (fun _ => h))

theorem updates (h : ℕ) : Function.update (Function.update (Function.update (Function.update (fun _ : Fin 4 => h) 0 (h + 1)) 1 (h + 1)) 2 (h + 1)) 3 (h + 1) = fun _ => h + 1 := by
  funext s; fin_cases s <;> rfl

theorem hops_step (c : Dev nD) (k : P F) (Q : PUnit → sProp 𝕄) : ∀ n h, n + h = 30 →
    iprop(recs m K ι ∗ All m c h) ⊢ iprop((All m c 30 -∗ wpc c k Q) -∗ wpc c (hops c n h k) Q) := by
  intro n
  induction n with
  | zero =>
    intro h hn
    obtain rfl : h = 30 := by omega
    iintro ⟨-, HA⟩ Hk
    iapply Hk
    iexact HA
  | succ n ih =>
    intro h hn
    have key (st : Fin 4) (t : Fin 4 → ℕ) (ht : ∀ s, h ≤ t s) (hst : t st = h) :=
      hop_step m K ι c st h (by omega) t t ht ht hst hst
    have hle (t : Fin 4 → ℕ) (st : Fin 4) (ht : ∀ s, h ≤ t s) : ∀ s, h ≤ Function.update t st (h + 1) s := fun s => by
      rcases eq_or_ne s st with rfl | hs
      · rw [Function.update_self]; omega
      · rw [Function.update_of_ne hs]; exact ht s
    have h0 : ∀ s : Fin 4, h ≤ (fun _ : Fin 4 => h) s := fun _ => le_refl _
    show _ ⊢ iprop((All m c 30 -∗ wpc c k Q) -∗ wpc c (hop c 0 h >>= fun _ => hop c 1 h >>= fun _ => hop c 2 h >>= fun _ => hop c 3 h >>= fun _ => hops c n (h + 1) k) Q)
    unfold All at ih ⊢
    iintro ⟨#HR, H0, H1, H2, H3, HO⟩ Hk
    iapply (after (key 0 _ h0 rfl)) $$ [H0 HO]
    · isplitr; · iexact HR
      isplitl [H0] <;> iassumption
    iintro ⟨H0, HO⟩
    iapply (after (key 1 _ (hle _ 0 h0) rfl)) $$ [H1 HO]
    · isplitr; · iexact HR
      isplitl [H1] <;> iassumption
    iintro ⟨H1, HO⟩
    iapply (after (key 2 _ (hle _ 1 (hle _ 0 h0)) rfl)) $$ [H2 HO]
    · isplitr; · iexact HR
      isplitl [H2] <;> iassumption
    iintro ⟨H2, HO⟩
    iapply (after (key 3 _ (hle _ 2 (hle _ 1 (hle _ 0 h0))) rfl)) $$ [H3 HO]
    · isplitr; · iexact HR
      isplitl [H3] <;> iassumption
    iintro ⟨H3, HO⟩
    iapply (ih (h + 1) (by omega)) $$ [H0 H1 H2 H3 HO]
    · isplitr; · iexact HR
      isplitl [H0]; · iexact H0
      isplitl [H1]; · iexact H1
      isplitl [H2]; · iexact H2
      isplitl [H3]; · iexact H3
      iapply (Entails.of_eq (by rw [updates])) $$ HO
    iexact Hk

/-! ## The closing steps -/

/-- A stream at the end. -/
def Fin' (c : Dev nD) (st : Fin 4) : sProp 𝕄 :=
  iprop(Arr c st 30 ∗ SndI c st 30 ∗ OutI m c st 16 ∗ Any c (cV st 0) ∗ Any c (cV st 3) ∗ FxB m c st 30 ∗ Land c st 29 ∗ Crd c st 27)

theorem close_step (c : Dev nD) (st : Fin 4) :
    iprop(recs m K ι ∗ St m c st 30 ∗ Ow c (fun _ => 30) (fun _ => 30))
      ⊢ wpc c (close c st) fun _ => iprop(Fin' m c st ∗ Ow c (fun _ => 30) (fun _ => 30)) := by
  have hle : ∀ s : Fin 4, 30 ≤ (fun _ : Fin 4 => 30) s := fun _ => le_refl _
  have e29 : (Has c (cV st (slotOf 29)) fullShare (blk m 29 (src st c) st) : sProp 𝕄) = Has c (cV st 3) fullShare (blk m 29 (src st c) st) :=
    congrArg (fun p => Has c (cV st p) fullShare (blk m 29 (src st c) st)) (by decide : slotOf 29 = (3 : Fin 4))
  have hb : blk m (15 + 15) c st = blk m 29 (src st c) st := if_neg (show ¬(29 + 1 ≤ 15) by decide)
  have h1 := put_step m K ι c st 15 (by omega)
  have h2 := putDone_step m K ι c st 15 (by omega) (fun _ => 30) (fun _ => 30)
  rw [show oslot 15 = 3 from rfl, hb] at h1 h2
  unfold St close Fin' SndB OutB IdleB
  rw [if_neg (by omega), if_neg (by omega), if_neg (by omega)]
  iintro ⟨#HR, ⟨HA, HS, HOut, -, HX, HL, -, HC, -⟩, HO⟩
  iapply (after (arrived_step m K ι c st 29 (by omega) (fun _ => 30) (fun _ => 30) hle hle)) $$ [HA HO]
  · isplitr; · iexact HR
    isplitl [HA] <;> iassumption
  iintro ⟨HA, HO, -, H3⟩
  iapply (after (putDone_step m K ι c st 14 (by omega) (fun _ => 30) (fun _ => 30))) $$ [HOut HO]
  · isplitr; · iexact HR
    isplitl [HOut] <;> iassumption
  iintro ⟨HOut, H0r, HO⟩
  ihave H3 := (Entails.of_eq e29) $$ H3
  ihave H3' := (Has_halves c (cV st 3) (blk m 29 (src st c) st)).1 $$ H3
  icases H3' with ⟨H3l, H3r⟩
  iapply (after h1) $$ [HOut H3r]
  · isplitr; · iexact HR
    isplitl [HOut]; · iexact HOut
    iexact H3r
  iintro HOut
  iapply (after h2) $$ [HOut HO]
  · isplitr; · iexact HR
    isplitl [HOut] <;> iassumption
  iintro ⟨HOut, H3r, HO⟩
  iapply (last (left_step m K ι c st 29 (by omega) (fun _ => 30) (fun _ => 30))) $$ [HS HO]
  · isplitr; · iexact HR
    isplitl [HS] <;> iassumption
  iintro ⟨HS, HO, H0l⟩
  isplitr [HO]
  · isplitl [HA]; · iexact HA
    isplitl [HS]; · iexact HS
    isplitl [HOut]; · iexact HOut
    isplitl [H0l H0r]
    · iapply (Has_any c (cV st 0) (blk m 29 c st))
      iapply (Has_halves c (cV st 0) (blk m 29 c st)).2
      isplitl [H0l]; · iexact H0l
      iexact H0r
    isplitl [H3l H3r]
    · iapply (Has_any c (cV st 3) (blk m 29 (src st c) st))
      iapply (Has_halves c (cV st 3) (blk m 29 (src st c) st)).2
      isplitl [H3l]; · iexact H3l
      iexact H3r
    isplitl [HX]; · iexact HX
    isplitl [HL]; · iexact HL
    iexact HC
  iexact HO

end Cert.RingProof

end
-- ==== Proof.Body.lean ====
/-
# The whole body

The fetches before the barrier, the barrier, the thirty hops and the closing steps, put together: what a
device starts the body with and what it ends it with.
-/
module

public import proofs.«01_k».proof.Proof.Hop

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Dev nD × Kind → ℕ) (ι : Key → ℕ)

/-! ## Families -/

/-- The four streams one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over the first numbers, by the bounded numbers. -/
theorem below (n : ℕ) (Φ : ℕ → sProp 𝕄) : bigSep (Finset.range n) Φ = bigSep (Finset.univ : Finset (Fin n)) fun i => Φ i.val := by
  have h : Finset.range n = (Finset.univ : Finset (Fin n)).map Fin.valEmbedding := by
    ext x
    rw [Finset.mem_range, Finset.mem_map]
    exact ⟨fun hx => ⟨⟨x, hx⟩, Finset.mem_univ _, rfl⟩, fun ⟨i, _, hi⟩ => hi ▸ i.isLt⟩
  rw [h, bigSep_map]; rfl
theorem below' (n : ℕ) (Φ : ℕ → sProp 𝕄) : bigSep (Finset.Ico 0 n) Φ = bigSep (Finset.univ : Finset (Fin n)) fun i => Φ i.val := by
  rw [← below, Finset.range_eq_Ico]

/-! ## Before the barrier -/

/-- The first three slots of a stream have been given back. -/
def Free (c : Dev nD) (st : Fin 4) : sProp 𝕄 := bigSep (Finset.range 3) fun i => Room c st i
instance Free_persistent (c : Dev nD) (st : Fin 4) : BI.Persistent (Free c st : sProp 𝕄) := by unfold Free; infer_instance

theorem free_step (c : Dev nD) (st : Fin 4) :
    iprop(recs m K ι ∗ (bigSep Finset.univ fun p : Fin 3 => Any c (cV st (slotS p))) ∗ bigSep Finset.univ fun p : Fin 3 => readerAt ES (c, st, p) 0)
      ⊢ |={Set.univ}=> iprop(Rdr c st 0 ∗ Free c st) := by
  have one (p : Fin 3) : iprop(recs m K ι ∗ Any c (cV st (slotS p)) ∗ readerAt ES (c, st, p) 0)
      ⊢ |={Set.univ}=> iprop(readerAt ES (c, st, p) (rnd 0 p + 1) ∗ Room c st p.val) := by
    have h1 : rnd 0 p = 0 := by have := p.isLt; unfold rnd; omega
    have h2 : third p.val = p := Fin.ext (Nat.mod_eq_of_lt p.isLt)
    have h3 : p.val / 3 = 0 := Nat.div_eq_of_lt p.isLt
    unfold Room
    rw [h1, h2, h3]
    iintro ⟨#HR, HS, Hr⟩
    imod (slot_release ES (S := keySlot (c, st, p)) (Set.mem_univ (ι (c, st, p))) (slot_single c st (slotS p)) 0) $$ [Hr HS] with ⟨Hr, Hrel⟩
    · isplitr; · iapply (recs_slot m K ι (c, st, p)); iexact HR
      isplitl [Hr]; · iexact Hr
      iexact HS
    imodintro
    isplitl [Hr]; · iexact Hr
    isplitl [Hrel]; · iexact Hrel
    iapply (recs_reached m K ι c (kRcv st p)); iexact HR
  have all := (bigSep_with_persistent (S := (Finset.univ : Finset (Fin 3))) (R := recs m K ι) fun p _ => one p).trans
    (bigSep_fupd (Finset.univ : Finset (Fin 3)) _)
  rw [bigSep_sep', bigSep_sep'] at all
  unfold Rdr Free
  rw [below]
  exact all

/-- A stream at the start. -/
def Start (c : Dev nD) (st : Fin 4) : sProp 𝕄 :=
  iprop(Arr c st 0 ∗ SndI c st 0 ∗ OutI m c st 0 ∗ Any c (cV st 0)
    ∗ (bigSep Finset.univ fun p : Fin 3 => Any c (cV st (slotS p)))
    ∗ (bigSep Finset.univ fun p : Fin 3 => readerAt ES (c, st, p) 0)
    ∗ FxCore c st 0 ∗ XAll m c st ∗ Any c (bV st 0) ∗ Any c (bV st 1) ∗ Sig c st 0 ∗ Crd c st 0)

/-- A stream once its first fetch is on its way and its slots are given back, and what then follows from the barrier. -/
def Mid (c : Dev nD) (st : Fin 4) : sProp 𝕄 :=
  iprop(Arr c st 0 ∗ SndB c st 0 ∗ OutB m c st 0 ∗ IdleB m c st 0 ∗ FxB m c st 0 ∗ Land c st 0 ∗ Sig c st 0 ∗ Crd c st 0)

theorem first_fetch (c : Dev nD) (st : Fin 4) :
    iprop(recs m K ι ∗ Start m c st) ⊢ wpc c (fetch c st 0) fun _ => iprop(Mid m c st ∗ Free c st) := by
  have hR : (Rdr c st 0 : sProp 𝕄) ⊢ Land c st 0 := by
    unfold Land Rooms
    rw [show min 0 27 = 0 from rfl, Finset.range_zero, bigSep_empty, Finset.Ico_eq_empty (by decide), bigSep_empty]
    iintro H
    isplitl [H]; · iexact H
    isplitr <;> iempintro
  unfold Start Mid SndB OutB IdleB Idle FxB
  rw [if_pos rfl, if_pos (Nat.zero_le _), if_pos (Nat.zero_le _), if_pos rfl, if_pos (Nat.zero_le _)]
  iintro ⟨#HR, HA, HS, HOut, HI, Hp, Hr, HF, HX, Hb0, Hb1, HSig, HC⟩
  ihave Hf := (free_step m K ι c st) $$ [Hp Hr]
  · isplitr; · iexact HR
    isplitl [Hp] <;> iassumption
  unfold wpc
  imod Hf with ⟨Hr, Hfree⟩
  ihave Hw := (fetch_step m K ι c st 0 (by decide)) $$ [HF HX Hb0]
  · isplitr; · iexact HR
    isplitl [HF]; · iexact HF
    isplitl [HX]; · iexact HX
    iexact Hb0
  unfold wpc
  iapply (wp_wand frame (wpE (defs₀ (F := F)) 𝒱₀ (c : Thread nD τ) none) Set.univ) $$ Hw
  iintro %u HF
  isplitr [Hfree]
  · isplitl [HA]; · iexact HA
    isplitl [HS]; · iexact HS
    isplitl [HOut]; · iexact HOut
    isplitl [HI]; · iexact HI
    isplitl [HF Hb1]
    · isplitl [HF]; · iexact HF
      iexact Hb1
    isplitl [Hr]; · iapply hR; iexact Hr
    isplitl [HSig] <;> iassumption
  iexact Hfree

/-! ## The barrier -/

theorem free_bar (c : Dev nD) (b : Bool) : (bigSep Finset.univ fun st => Free c st : sProp 𝕄) ⊢ barPay (nbr (!b) c) b := by
  unfold barPay
  refine bigSep_intro_persistent fun st hst => ?_
  have hb : toRight st = b := (Finset.mem_filter.mp hst).2
  have hd : dst st (nbr (!b) c) = c := by unfold dst; rw [hb]; exact nbr_nbr b c
  rw [hd]
  exact one_of (Finset.mem_univ st) fun st => Free c st

instance barPay_persistent (c : Dev nD) (b : Bool) : BI.Persistent (barPay c b : sProp 𝕄) := by unfold barPay; infer_instance

theorem bar_early (c : Dev nD) (st : Fin 4) : iprop(barPay c true ∗ barPay c false) ⊢ (Early c st : sProp 𝕄) := by
  have h (b : Bool) (hb : toRight st = b) : (barPay c b : sProp 𝕄) ⊢ Early c st := by
    unfold barPay Early
    exact one_of (Finset.mem_filter.mpr ⟨Finset.mem_univ st, hb⟩) fun st => bigSep (Finset.range 3) fun i => Room (dst st c) st i
  cases hb : toRight st
  · iintro ⟨-, H⟩; iapply (h false hb); iexact H
  · iintro ⟨H, -⟩; iapply (h true hb); iexact H

/-- A signal of the barrier. -/
theorem bar_signal (c : Dev nD) (b : Bool) (O : CellTallies nD τ sig ℕ) :
    iprop(recs m K ι ∗ dutyTok ER (cell (nbr (!b) c) kBar) 0 (bif b then 0 else 1) ∗ (bigSep Finset.univ fun st => Free c st)
        ∗ ∃ W, owes (c : Thread nD τ) (O + tallyAt (cell (nbr (!b) c) kBar) 0 1) W)
      ⊢ wpc c (semSignalWord (nbr (!b) c) barS 1#32) fun _ => iprop(∃ W, owes (c : Thread nD τ) O W) := by
  have hpay : (bigSep Finset.univ fun st => Free c st : sProp 𝕄)
      ⊢ (Rd (F := F) m).payload ((nbr (!b) c : Thread nD τ), SemLoc.reg barS) 0 (bif b then 0 else 1) :=
    (free_bar c b).trans (Entails.of_eq ((Rd_payload m (nbr (!b) c) kBar 0 (bif b then 0 else 1)).trans (by cases b <;> rfl)).symm)
  unfold semSignalWord
  iintro ⟨#HR, Ht, #Hf, ⟨%W, HO⟩⟩
  unfold wpc
  iapply (Rounds.wp_signal 𝒱₀ ER (Rd m) (c : Thread nD τ) none (dst := (nbr (!b) c : Thread nD τ)) (κ := K (nbr (!b) c, kBar)) (r := 0) (d := bif b then 0 else 1) (sem := barS)
    (by rw [show ((nbr (!b) c : Thread nD τ), SemLoc.reg barS) = cell (nbr (!b) c) kBar from rfl, Rd_duties]; cases b <;> decide)
    (Rd_amount m (nbr (!b) c) kBar 0 _) 0 O rfl (W := W)) $$ [HO Ht]
  · isplitr; · iapply (recs_cell m K ι (nbr (!b) c) kBar); iexact HR
    isplitl [HO]; · iexact HO
    isplitl [Ht]; · iexact Ht
    isplitr; · iapply hpay; iexact Hf
    iapply (recs_reached m K ι (nbr (!b) c) kBar); iexact HR
  iintro HO
  rw [wp_ret]
  imodintro
  iexists _; iexact HO

/-- The wait of the barrier. -/
theorem bar_wait (c : Dev nD) (a b : Fin 4 → ℕ) :
    iprop(recs m K ι ∗ cred (tallyAt (cell c kBar) 0 2) ∗ atPos ER (cell c kBar) 0 ∅ 0 ∗ Ow c a b)
      ⊢ wpc c (semWaitWord barS 2#32) fun _ => iprop(atPos ER (cell c kBar) 1 ∅ 0 ∗ (barPay c true ∗ barPay c false) ∗ Ow c a b) := by
  have hex : (Rd (F := F) m).expect ((c : Thread nD τ), SemLoc.reg barS) 0 = 2 := Rd_expect m c kBar 0
  have hpl : (bigSep ((Rd (F := F) m).duties ((c : Thread nD τ), SemLoc.reg barS) 0 \ ∅) fun d => (Rd (F := F) m).payload ((c : Thread nD τ), SemLoc.reg barS) 0 d)
      ⊢ iprop(barPay c true ∗ barPay c false) := by
    rw [Finset.sdiff_empty, show (Rd (F := F) m).duties ((c : Thread nD τ), SemLoc.reg barS) 0 = {0, 1} from Rd_duties m c kBar 0,
      bigSep_insert (by decide), bigSep_singleton]
    exact Entails.of_eq (congrArg₂ (fun A B : sProp 𝕄 => iprop(A ∗ B)) (Rd_payload m c kBar 0 0) (Rd_payload m c kBar 0 1))
  have hmw := (recs_levels m K ι).trans (may_wait (F := F) c (.reg barS) 0 0 a b (le_refl _) (by omega) (fun _ => Nat.zero_le _) (fun _ => Nat.zero_le _))
  unfold Ow semWaitWord wpc
  iintro ⟨#HR, Hc, Hat, ⟨%W, HO⟩⟩
  iapply (Rounds.wp_wait_rest_token 𝒱₀ ER (Rd m) (c : Thread nD τ) none (κ := K (c, kBar)) (k' := 2)
    (wpE_semWait_eq 𝒱₀ (c : Thread nD τ) none Set.univ) (Set.mem_univ _) 0 (O := rem c a b) (W := W) (R := 0) (m := 0) (T := ∅)
    (by rw [hex])) $$ [Hc HO Hat]
  · isplitr; · iapply (recs_cell m K ι c kBar); iexact HR
    isplitl [Hc]; · iexact Hc
    isplitl [HO]; · iexact HO
    isplitr; · iapply hmw; iexact HR
    iexact Hat
  iintro ⟨HO, Hat, -, Hp⟩
  rw [wp_ret]
  imodintro
  isplitl [Hat]; · iexact Hat
  isplitl [Hp]; · iapply hpl; iexact Hp
  iexists _; iexact HO

/-- The barrier's resources: the two signals still to give, the two to receive. -/
def Bar (c : Dev nD) : sProp 𝕄 :=
  iprop(dutyTok ER (cell (nbr false c) kBar) 0 0 ∗ dutyTok ER (cell (nbr true c) kBar) 0 1 ∗ cred (tallyAt (cell c kBar) 0 2) ∗ atPos ER (cell c kBar) 0 ∅ 0)

theorem mid_st (c : Dev nD) (st : Fin 4) : iprop(Mid m c st ∗ Early c st) ⊢ St m c st 0 := by
  unfold Mid St
  iintro ⟨⟨H1, H2, H3, H4, H5, H6, H7, H8⟩, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem opening_step (c : Dev nD) :
    iprop(recs m K ι ∗ (Start m c 0 ∗ Start m c 1 ∗ Start m c 2 ∗ Start m c 3) ∗ Bar c ∗ ∃ W, owes (c : Thread nD τ) (O₀ c) W)
      ⊢ wpc c (opening c) fun _ => iprop(All m c 0 ∗ atPos ER (cell c kBar) 1 ∅ 0) := by
  have hfree : iprop(Free c 0 ∗ Free c 1 ∗ Free c 2 ∗ Free c 3) ⊢ (bigSep Finset.univ fun st => Free c st : sProp 𝕄) := Entails.of_eq (four _).symm
  unfold opening Bar O₀
  iintro ⟨#HR, ⟨H0, H1, H2, H3⟩, ⟨Ht0, Ht1, Hc, Hat⟩, HO⟩
  iapply (after (first_fetch m K ι c 0)) $$ [H0]
  · isplitr <;> iassumption
  iintro ⟨H0, #F0⟩
  iapply (after (first_fetch m K ι c 1)) $$ [H1]
  · isplitr <;> iassumption
  iintro ⟨H1, #F1⟩
  iapply (after (first_fetch m K ι c 2)) $$ [H2]
  · isplitr <;> iassumption
  iintro ⟨H2, #F2⟩
  iapply (after (first_fetch m K ι c 3)) $$ [H3]
  · isplitr <;> iassumption
  iintro ⟨H3, #F3⟩
  ihave #HF := hfree $$ []
  · isplitr; · iexact F0
    isplitr; · iexact F1
    isplitr; · iexact F2
    iexact F3
  iapply (after (bar_signal m K ι c true _)) $$ [Ht0 HO]
  · isplitr; · iexact HR
    isplitl [Ht0]; · iexact Ht0
    isplitr; · iexact HF
    iexact HO
  iintro HO
  iapply (after (bar_signal m K ι c false _)) $$ [Ht1 HO]
  · isplitr; · iexact HR
    isplitl [Ht1]; · iexact Ht1
    isplitr; · iexact HF
    iexact HO
  iintro HO
  iapply (last (bar_wait m K ι c (fun _ => 0) (fun _ => 0))) $$ [Hc Hat HO]
  · isplitr; · iexact HR
    isplitl [Hc]; · iexact Hc
    isplitl [Hat]; · iexact Hat
    unfold Ow; iexact HO
  iintro ⟨Hat, #HB, HO⟩
  isplitr [Hat]
  · unfold All
    isplitl [H0]
    · iapply (mid_st m c 0); isplitl [H0]; · iexact H0
      iapply (bar_early c 0); iexact HB
    isplitl [H1]
    · iapply (mid_st m c 1); isplitl [H1]; · iexact H1
      iapply (bar_early c 1); iexact HB
    isplitl [H2]
    · iapply (mid_st m c 2); isplitl [H2]; · iexact H2
      iapply (bar_early c 2); iexact HB
    isplitl [H3]
    · iapply (mid_st m c 3); isplitl [H3]; · iexact H3
      iapply (bar_early c 3); iexact HB
    iexact HO
  iexact Hat

/-! ## The body -/

/-- What a device has at the end of the body. -/
def Done (c : Dev nD) : sProp 𝕄 :=
  iprop((Fin' m c 0 ∗ Fin' m c 1 ∗ Fin' m c 2 ∗ Fin' m c 3) ∗ atPos ER (cell c kBar) 1 ∅ 0)

theorem whole_step (c : Dev nD) :
    iprop(recs m K ι ∗ (Start m c 0 ∗ Start m c 1 ∗ Start m c 2 ∗ Start m c 3) ∗ Bar c ∗ ∃ W, owes (c : Thread nD τ) (O₀ c) W)
      ⊢ wpc c whole fun _ => iprop(Done m c ∗ ∃ W, owes (c : Thread nD τ) 0 W) := by
  have hO : (Ow c (fun _ => 30) (fun _ => 30) : sProp 𝕄) ⊢ iprop(∃ W, owes (c : Thread nD τ) 0 W) := by
    unfold Ow; rw [rem_end]
  unfold whole Prog.lift wpc
  simp only [Prog.bind_op, Prog.bind_ret, wp_deviceId]
  iintro ⟨#HR, HS, HB, HO⟩
  iapply (after (opening_step m K ι c)) $$ [HS HB HO]
  · isplitr; · iexact HR
    isplitl [HS]; · iexact HS
    isplitl [HB] <;> iassumption
  iintro ⟨HA, Hat⟩
  iapply (hops_step m K ι c _ _ 30 0 rfl) $$ [HA]
  · isplitr
    · iexact HR
    iexact HA
  unfold All
  iintro ⟨H0, H1, H2, H3, HO⟩
  iapply (after (close_step m K ι c 0)) $$ [H0 HO]
  · isplitr; · iexact HR
    isplitl [H0] <;> iassumption
  iintro ⟨H0, HO⟩
  iapply (after (close_step m K ι c 1)) $$ [H1 HO]
  · isplitr; · iexact HR
    isplitl [H1] <;> iassumption
  iintro ⟨H1, HO⟩
  iapply (after (close_step m K ι c 2)) $$ [H2 HO]
  · isplitr; · iexact HR
    isplitl [H2] <;> iassumption
  iintro ⟨H2, HO⟩
  iapply (last (close_step m K ι c 3)) $$ [H3 HO]
  · isplitr; · iexact HR
    isplitl [H3] <;> iassumption
  iintro ⟨H3, HO⟩
  isplitr [HO]
  · unfold Done
    isplitr [Hat]
    · isplitl [H0]; · iexact H0
      isplitl [H1]; · iexact H1
      isplitl [H2]; · iexact H2
      iexact H3
    iexact Hat
  iapply hO; iexact HO

/-- The printed body is the chain of hops. -/
theorem body_eq (t : Fin cfg0.N) : bodyAt0 (F := F) t = whole := by chain_rfl

end Cert.RingProof

end
-- ==== Proof.Deal.lean ====
/-
# Dealing out the protocol

The tokens, positions and credits made at the launch, and who holds each of them at the start: a device
keeps those of its own semaphores that it waits on, and gets those of its neighbours' that it signals.
-/
module

public import proofs.«01_k».proof.Proof.Body

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## Rearranging families -/

theorem swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1),
    bigSep_univ_equiv (Equiv.prodComm B A) (fun x : A × B => Φ x.1 x.2)]
  rfl

/-- Every device passes its member of a family on, each stream its own way. -/
theorem move (e : Fin 4 → Dev nD ≃ Dev nD) (Φ : Dev nD → Fin 4 → sProp 𝕄) :
    (bigSep Finset.univ fun c => bigSep Finset.univ fun st => Φ c st)
      = bigSep Finset.univ fun c => bigSep Finset.univ fun st => Φ (e st c) st := by
  rw [swap, swap (fun c st => Φ (e st c) st)]
  exact bigSep_congr fun st _ => bigSep_univ_equiv (e st) _

/-- A hop number below thirty by its slot and its trip. -/
def trips : Fin 30 ≃ Fin 3 × Fin 10 where
  toFun i := (third i.val, ⟨i.val / 3, by have := i.isLt; omega⟩)
  invFun x := ⟨3 * x.2.val + x.1.val, by have := x.1.isLt; have := x.2.isLt; omega⟩
  left_inv i := Fin.ext (Nat.div_add_mod i.val 3)
  right_inv x := by
    have := x.1.isLt
    exact Prod.ext (Fin.ext (show (3 * x.2.val + x.1.val) % 3 = x.1.val by omega)) (Fin.ext (show (3 * x.2.val + x.1.val) / 3 = x.2.val by omega))

theorem by_trips (Φ : Fin 3 → ℕ → sProp 𝕄) :
    (bigSep Finset.univ fun p => bigSep (Finset.range 10) fun t => Φ p t) = bigSep (Finset.Ico 0 30) fun i => Φ (third i) (i / 3) := by
  rw [below', bigSep_congr fun p _ => below 10 (Φ p), ← bigSep_univ_prod (fun x : Fin 3 × Fin 10 => Φ x.1 x.2.val),
    bigSep_univ_equiv trips (fun x : Fin 3 × Fin 10 => Φ x.1 x.2.val)]
  rfl

/-- The semaphores of a device, group by group. -/
theorem kinds (Φ : Kind → sProp 𝕄) :
    bigSep Finset.univ Φ = iprop(Φ kBar ∗ (bigSep Finset.univ fun st => Φ (kCrd st)) ∗ (bigSep Finset.univ fun st => Φ (kSnd st))
      ∗ (bigSep Finset.univ fun st => bigSep Finset.univ fun p => Φ (kRcv st p))
      ∗ (bigSep Finset.univ fun st => Φ (kX st)) ∗ bigSep Finset.univ fun st => Φ (kO st)) := by
  rw [bigSep_univ_sum, bigSep_univ_sum, bigSep_univ_sum, bigSep_univ_sum, bigSep_univ_sum, bigSep_univ_prod,
    bigSep_univ_eq_bigSepL [()] (by decide) (by decide)]
  rfl

/-! ## The launch's tokens -/

/-- A device's semaphores' duties: of the barrier's, by signaller; per stream, of the credits', the sends', the
    arrivals', the fetches' and the results'. -/
abbrev Tok : Type := Fin 2 ⊕ ((Fin 4 × Fin 27) ⊕ (Fin 4 × Fin 30) ⊕ (Fin 4 × Fin 30) ⊕ (Fin 4 × Fin 16) ⊕ (Fin 4 × Fin 16))
def tokAt : Tok → Kind × ℕ × ℕ
  | .inl d => (kBar, 0, d.val)
  | .inr (.inl x) => (kCrd x.1, 0, x.2.val)
  | .inr (.inr (.inl x)) => (kSnd x.1, x.2.val, 0)
  | .inr (.inr (.inr (.inl x))) => (kRcv x.1 (third x.2.val), x.2.val / 3, 0)
  | .inr (.inr (.inr (.inr (.inl x)))) => (kX x.1, x.2.val, 0)
  | .inr (.inr (.inr (.inr (.inr x)))) => (kO x.1, x.2.val, 0)

theorem tokAt_inj : Function.Injective tokAt := by
  rintro (a | ⟨a, i⟩ | ⟨a, i⟩ | ⟨a, i⟩ | ⟨a, i⟩ | ⟨a, i⟩) (b | ⟨b, j⟩ | ⟨b, j⟩ | ⟨b, j⟩ | ⟨b, j⟩ | ⟨b, j⟩) h <;>
    simp only [tokAt, Prod.mk.injEq, reduceCtorEq, Sum.inr.injEq, Sum.inl.injEq, false_and, _root_.true_and, and_true] at h
  · rw [Fin.ext h]
  · rw [h.1, Fin.ext h.2]
  · rw [h.1, Fin.ext h.2]
  · have h1 : i.val % 3 = j.val % 3 := congrArg Fin.val h.1.2
    have h2 := h.2
    rw [h.1.1, show i = j from Fin.ext (by omega)]
  · rw [h.1, Fin.ext h.2]
  · rw [h.1, Fin.ext h.2]

def cells : Finset (GSem nD τ sig) :=
  (Finset.univ : Finset (Dev nD × Kind)).map ⟨fun x => cell x.1 x.2, fun x y h => Prod.ext (cell_inj.mp h).1 (cell_inj.mp h).2⟩
def toks : Finset (GSem nD τ sig × ℕ × ℕ) :=
  (Finset.univ : Finset (Dev nD × Tok)).map ⟨fun x => (cell x.1 (tokAt x.2).1, (tokAt x.2).2), fun x y h => by
    have h1 := Prod.ext_iff.mp h
    have h2 := cell_inj.mp h1.1
    exact Prod.ext h2.1 (tokAt_inj (Prod.ext h2.2 h1.2))⟩

theorem over_cells (Φ : GSem nD τ sig → sProp 𝕄) :
    bigSep cells Φ = bigSep Finset.univ fun c => bigSep Finset.univ fun k => Φ (cell c k) := by
  unfold cells; rw [bigSep_map, bigSep_univ_prod]; rfl

/-- The duty tokens of a device's own semaphores for a stream. -/
def Mint (c : Dev nD) (st : Fin 4) : sProp 𝕄 :=
  iprop((bigSep (Finset.Ico 0 27) fun i => dutyTok ER (cell c (kCrd st)) 0 i)
    ∗ (bigSep (Finset.Ico 0 30) fun i => dutyTok ER (cell c (kSnd st)) i 0)
    ∗ (bigSep (Finset.Ico 0 30) fun i => dutyTok ER (cell c (kRcv st (third i))) (i / 3) 0)
    ∗ (bigSep (Finset.Ico 0 16) fun i => dutyTok ER (cell c (kX st)) i 0)
    ∗ bigSep (Finset.Ico 0 16) fun i => dutyTok ER (cell c (kO st)) i 0)

theorem over_toks :
    (bigSep toks fun x => (dutyTok ER x.1 x.2.1 x.2.2 : sProp 𝕄))
      = bigSep Finset.univ fun c => iprop((dutyTok ER (cell c kBar) 0 0 ∗ dutyTok ER (cell c kBar) 0 1) ∗ bigSep Finset.univ fun st => Mint c st) := by
  unfold toks
  rw [bigSep_map, bigSep_univ_prod]
  refine bigSep_congr fun c _ => ?_
  rw [bigSep_univ_sum, bigSep_univ_sum, bigSep_univ_sum, bigSep_univ_sum, bigSep_univ_sum,
    bigSep_univ_prod, bigSep_univ_prod, bigSep_univ_prod, bigSep_univ_prod, bigSep_univ_prod, bigSep_univ_eq_bigSepL [0, 1] (by decide) (by decide)]
  unfold Mint
  simp only [bigSep_sep', below']
  rfl

/-! ## What a device is dealt -/

/-- A stream's part: its positions, its tokens, the count of its readers, and the tokens of its writes. -/
def Lin (c : Dev nD) (st : Fin 4) : sProp 𝕄 :=
  iprop((bigSep Finset.univ fun p => atPos ER (cell c (kRcv st p)) 0 ∅ 0)
    ∗ (atPos ER (cell c (kSnd st)) 0 ∅ 0 ∗ SndTok c st 0)
    ∗ (atPos ER (cell c (kO st)) 0 ∅ 0 ∗ bigSep (Finset.Ico 0 16) fun i => dutyTok ER (cell c (kO st)) i 0)
    ∗ (bigSep Finset.univ fun p : Fin 3 => readerAt ES (c, st, p) 0)
    ∗ (atPos ER (cell c (kX st)) 0 ∅ 0 ∗ bigSep (Finset.Ico 0 16) fun i => dutyTok ER (cell c (kX st)) i 0)
    ∗ Sig c st 0 ∗ atPos ER (cell c (kCrd st)) 0 ∅ 0)

/-- A device's part. -/
def Lot (c : Dev nD) : sProp 𝕄 :=
  iprop((dutyTok ER (cell (nbr false c) kBar) 0 0 ∗ dutyTok ER (cell (nbr true c) kBar) 0 1 ∗ atPos ER (cell c kBar) 0 ∅ 0)
    ∗ bigSep Finset.univ fun st => Lin c st)

/-- The positions at the start, by device and stream. -/
theorem over_pos :
    (bigSep cells fun g => (atPos ER g 0 ∅ 0 : sProp 𝕄))
      = iprop((bigSep Finset.univ fun c => atPos ER (cell c kBar) 0 ∅ 0)
        ∗ (bigSep Finset.univ fun c => bigSep Finset.univ fun st => atPos ER (cell c (kCrd st)) 0 ∅ 0)
        ∗ (bigSep Finset.univ fun c => bigSep Finset.univ fun st => atPos ER (cell c (kSnd st)) 0 ∅ 0)
        ∗ (bigSep Finset.univ fun c => bigSep Finset.univ fun st => bigSep Finset.univ fun p => atPos ER (cell c (kRcv st p)) 0 ∅ 0)
        ∗ (bigSep Finset.univ fun c => bigSep Finset.univ fun st => atPos ER (cell c (kX st)) 0 ∅ 0)
        ∗ bigSep Finset.univ fun c => bigSep Finset.univ fun st => atPos ER (cell c (kO st)) 0 ∅ 0) := by
  rw [over_cells]
  simp only [kinds, bigSep_sep']

theorem over_keys (Φ : Key → sProp 𝕄) :
    bigSep Finset.univ Φ = bigSep Finset.univ fun c => bigSep Finset.univ fun st => bigSep Finset.univ fun p => Φ (c, st, p) := by
  rw [bigSep_univ_prod]
  exact bigSep_congr fun c _ => bigSep_univ_prod _

theorem over_pairs {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint (({a} : Finset A) ×ˢ t) (s ×ˢ t) := by
      rw [Finset.disjoint_left]
      intro x h1 h2
      have h3 := (Finset.mem_product.mp h1).1
      rw [Finset.mem_singleton] at h3
      exact ha (h3 ▸ (Finset.mem_product.mp h2).1)
    have hs : ({a} : Finset A) ×ˢ t = t.map ⟨fun b => (a, b), fun x y h => (Prod.ext_iff.mp h).2⟩ := by
      ext x
      simp only [Finset.mem_product, Finset.mem_singleton, Finset.mem_map, Function.Embedding.coeFn_mk]
      exact ⟨fun ⟨h1, h2⟩ => ⟨x.2, h2, Prod.ext h1.symm rfl⟩, fun ⟨b, hb, h⟩ => h ▸ ⟨rfl, hb⟩⟩
    rw [Finset.insert_eq, Finset.union_product, bigSep_union hd, ← Finset.insert_eq, bigSep_insert ha, ih, hs, bigSep_map]
    rfl

theorem over_writes :
    (bigSep ((Finset.univ : Finset Key) ×ˢ Finset.range 10) fun x => (writeTok ES x.1 (x.2 + 1) : sProp 𝕄))
      = bigSep Finset.univ fun c => bigSep Finset.univ fun st => bigSep (Finset.Ico 0 30) fun i => writeTok ES (dst st c, st, third i) (i / 3 + 1) := by
  rw [over_pairs, over_keys]
  simp only [by_trips (fun p t => writeTok ES ((_ : Dev nD), (_ : Fin 4), p) (t + 1))]
  exact move along _

/-- Everything made at the launch, dealt to the devices. -/
theorem deal :
    iprop((bigSep cells fun g => (atPos ER g 0 ∅ 0 : sProp 𝕄))
        ∗ (bigSep toks fun x => dutyTok ER x.1 x.2.1 x.2.2)
        ∗ (bigSep (Finset.univ : Finset Key) fun k => readerAt ES k 0)
        ∗ bigSep ((Finset.univ : Finset Key) ×ˢ Finset.range 10) fun x => writeTok ES x.1 (x.2 + 1))
      ⊢ bigSep Finset.univ fun c => Lot c := by
  rw [over_pos, over_toks, over_keys, over_writes]
  unfold Lot Lin Mint SndTok Sig
  simp only [bigSep_sep']
  rw [bigSep_univ_equiv (beside false) (fun c => (dutyTok ER (cell c kBar) 0 0 : sProp 𝕄)),
    bigSep_univ_equiv (beside true) (fun c => (dutyTok ER (cell c kBar) 0 1 : sProp 𝕄)),
    move (fun st => (along st).symm) (fun c st => bigSep (Finset.Ico 0 27) fun i => (dutyTok ER (cell c (kCrd st)) 0 i : sProp 𝕄)),
    move along (fun c st => bigSep (Finset.Ico 0 30) fun i => (dutyTok ER (cell c (kRcv st (third i))) (i / 3) 0 : sProp 𝕄))]
  iintro ⟨⟨HaB, HaC, HaS, HaR, HaX, HaO⟩, ⟨⟨HtB0, HtB1⟩, HtC, HtS, HtR, HtX, HtO⟩, Hrd, Hw⟩
  isplitl [HaB HtB0 HtB1]
  · isplitl [HtB0]; · iexact HtB0
    isplitl [HtB1]; · iexact HtB1
    iexact HaB
  isplitl [HaR]; · iexact HaR
  isplitl [HaS HtS HtR Hw]
  · isplitl [HaS]; · iexact HaS
    isplitl [HtS]; · iexact HtS
    isplitl [HtR]; · iexact HtR
    iexact Hw
  isplitl [HaO HtO]
  · isplitl [HaO] <;> iassumption
  isplitl [Hrd]; · iexact Hrd
  isplitl [HaX HtX]
  · isplitl [HaX] <;> iassumption
  isplitl [HtC]; · iexact HtC
  iexact HaC

/-! ## The launch's credits -/

theorem cred_sum {I : Type} [DecidableEq I] (s : Finset I) (T : I → CellTallies nD τ sig ℕ) :
    (cred (∑ i ∈ s, T i) : sProp 𝕄) ⊣⊢ bigSep s fun i => cred (T i) := by
  induction s using Finset.induction_on with
  | empty => rw [Finset.sum_empty, bigSep_empty, cred_zero]; exact ⟨BI.Entails.refl _, BI.Entails.refl _⟩
  | insert a s ha ih =>
    rw [Finset.sum_insert ha, bigSep_insert ha]
    exact ⟨(cred_add _ _).1.trans (sep_mono_right ih.1), (sep_mono_right ih.2).trans (cred_add _ _).2⟩

/-- What the others owe a device. -/
def Owed (c : Dev nD) : CellTallies nD τ sig ℕ :=
  (∑ st, ∑ j ∈ Finset.Ico 0 27, tallyAt (cell c (kCrd st)) (j + 3) 1)
    + (∑ st, ∑ h ∈ Finset.Ico 0 30, tallyAt (cell c (kRcv st (third h))) (h + 1) N)
    + tallyAt (cell c kBar) 0 2

theorem sum_move (e : Fin 4 → Dev nD ≃ Dev nD) (f : Dev nD → Fin 4 → CellTallies nD τ sig ℕ) :
    ∑ c, ∑ st, f (e st c) st = ∑ c, ∑ st, f c st := by
  rw [Finset.sum_comm, Finset.sum_comm (f := fun c st => f c st)]
  exact Finset.sum_congr rfl fun st _ => Equiv.sum_comp (e st) fun c => f c st

theorem credits_hops (f : ℕ → CellTallies nD τ sig ℕ) :
    (∑ h ∈ Finset.Ico 0 30, if 2 ≤ h ∧ h ≤ 28 then f (h + 1) else 0) = ∑ j ∈ Finset.Ico 0 27, f (j + 3) := by
  have h : (Finset.Ico 0 30).filter (fun h => 2 ≤ h ∧ h ≤ 28) = (Finset.Ico 0 27).map ⟨fun j => j + 2, fun _ _ e => Nat.add_right_cancel e⟩ := by decide
  rw [← Finset.sum_filter, h, Finset.sum_map]
  rfl

theorem sum_dueS : ∑ c, ∑ st, ∑ h ∈ Finset.Ico 0 30, dueS c st h = ∑ c, ∑ st, ∑ j ∈ Finset.Ico 0 27, tallyAt (cell c (kCrd st)) (j + 3) 1 := by
  have h (c : Dev nD) (st : Fin 4) : ∑ h ∈ Finset.Ico 0 30, dueS c st h = ∑ j ∈ Finset.Ico 0 27, tallyAt (cell (src st c) (kCrd st)) (j + 3) 1 :=
    credits_hops fun i => tallyAt (cell (src st c) (kCrd st)) i 1
  simp only [h]
  exact sum_move (fun st => (along st).symm) fun c st => ∑ j ∈ Finset.Ico 0 27, tallyAt (cell c (kCrd st)) (j + 3) 1

theorem sum_dueR : ∑ c, ∑ st, ∑ h ∈ Finset.Ico 0 30, dueR c st h = ∑ c, ∑ st, ∑ h ∈ Finset.Ico 0 30, tallyAt (cell c (kRcv st (third h))) (h + 1) N :=
  sum_move along fun c st => ∑ h ∈ Finset.Ico 0 30, tallyAt (cell c (kRcv st (third h))) (h + 1) N

theorem sum_bar (b : Bool) : ∑ c, tallyAt (cell (nbr b c) kBar) 0 1 = ∑ c, (tallyAt (cell c kBar) 0 1 : CellTallies nD τ sig ℕ) :=
  Equiv.sum_comp (beside b) fun c => (tallyAt (cell c kBar) 0 1 : CellTallies nD τ sig ℕ)

theorem sum_owed : ∑ c, O₀ c = ∑ c, Owed c := by
  have h4 : ∑ c, (tallyAt (cell c kBar) 0 2 : CellTallies nD τ sig ℕ) = (∑ c, tallyAt (cell c kBar) 0 1) + ∑ c, tallyAt (cell c kBar) 0 1 := by
    rw [← Finset.sum_add_distrib]
    exact Finset.sum_congr rfl fun c _ => (tallyAt_add (cell c kBar) 0 1 1).symm
  have hL : ∑ c, O₀ c = ((∑ c, ∑ st, ∑ h ∈ Finset.Ico 0 30, dueS c st h) + (∑ c, ∑ st, ∑ h ∈ Finset.Ico 0 30, dueR c st h))
      + (∑ c, tallyAt (cell (nbr true c) kBar) 0 1) + ∑ c, tallyAt (cell (nbr false c) kBar) 0 1 := by
    unfold O₀ rem
    rw [Finset.sum_add_distrib, Finset.sum_add_distrib, Finset.sum_add_distrib]
  have hR : ∑ c, Owed c = ((∑ c, ∑ st, ∑ j ∈ Finset.Ico 0 27, tallyAt (cell c (kCrd st)) (j + 3) 1)
      + (∑ c, ∑ st, ∑ h ∈ Finset.Ico 0 30, tallyAt (cell c (kRcv st (third h))) (h + 1) N)) + ∑ c, tallyAt (cell c kBar) 0 2 := by
    unfold Owed
    rw [Finset.sum_add_distrib, Finset.sum_add_distrib]
  rw [hL, hR, h4, sum_bar, sum_bar, sum_dueS, sum_dueR, add_assoc (_ + _)]

theorem Owed_off (c : Dev nD) (g : GSem nD τ sig) (h : g.1 ≠ (c : Thread nD τ)) : Owed c g = 0 := by
  have hz (k : Kind) (i n : ℕ) : (tallyAt (cell c k) i n : CellTallies nD τ sig ℕ) g = 0 :=
    tallyAt_ne_cell (fun e => h (congrArg Prod.fst e)) i n
  unfold Owed
  simp only [Pi.add_apply, Finset.sum_apply, hz, Finset.sum_const_zero, add_zero]

theorem launch_credits (c : Dev nD) :
    (∑ sm, tallyOn ((c : Thread nD τ), sm) (launchCredit (Pipeline.owing O₀) 0 ((c : Thread nD τ), sm))) = Owed c := by
  have hX (g : GSem nD τ sig) : launchCredit (Pipeline.owing O₀) 0 g = (∑ d, Owed d) g := by
    rw [← sum_owed]
    refine Finsupp.ext fun i => ?_
    rw [Pipeline.launchCredit_owing, Finset.sum_apply, Finsupp.finset_sum_apply]
  have hc (sm : SemLoc sig) : (∑ d, Owed d) ((c : Thread nD τ), sm) = Owed c ((c : Thread nD τ), sm) := by
    rw [Finset.sum_apply]
    exact Finset.sum_eq_single c (fun d _ hd => Owed_off d _ fun e => hd (Fin.ext (congrArg (fun t : Thread nD τ => t.1.val) e).symm))
      fun h => absurd (Finset.mem_univ c) h
  simp only [hX, hc]
  funext g
  rw [Finset.sum_apply]
  by_cases hg : g.1 = (c : Thread nD τ)
  · obtain ⟨t, sm⟩ := g
    dsimp only at hg; subst hg
    rw [Finset.sum_eq_single sm (fun s _ hs => tallyOn_ne (fun e => hs (congrArg Prod.snd e).symm) _) fun h => absurd (Finset.mem_univ sm) h, tallyOn_self]
  · rw [Owed_off c g hg]
    exact Finset.sum_eq_zero fun s _ => tallyOn_ne (fun e => hg (congrArg Prod.fst e)) _

/-- A device's credits at the start, stream by stream. -/
def Due (c : Dev nD) (st : Fin 4) : sProp 𝕄 :=
  iprop((bigSep (Finset.Ico 0 27) fun i => cred (tallyAt (cell c (kCrd st)) (i + 3) 1))
    ∗ bigSep (Finset.Ico 0 30) fun i => cred (tallyAt (cell c (kRcv st (third i))) (i + 1) N))

theorem credits (c : Dev nD) :
    (Pipeline.launchCred O₀ c : sProp 𝕄) ⊢ iprop((bigSep Finset.univ fun st => Due c st) ∗ cred (tallyAt (cell c kBar) 0 2)) := by
  have h : (cred (Owed c) : sProp 𝕄) ⊢ iprop((bigSep Finset.univ fun st => Due c st) ∗ cred (tallyAt (cell c kBar) 0 2)) := by
    unfold Owed Due
    rw [bigSep_sep']
    refine (cred_add _ _).1.trans (sep_mono_left ((cred_add _ _).1.trans (BI.sep_mono ?_ ?_)))
    · exact (cred_sum _ _).1.trans (bigSep_mono fun st _ => (cred_sum _ _).1)
    · exact (cred_sum _ _).1.trans (bigSep_mono fun st _ => (cred_sum _ _).1)
  unfold Pipeline.launchCred
  refine BIBase.Entails.trans (cred_sum _ _).2 ?_
  rw [launch_credits]
  exact h

end Cert.RingProof

end
-- ==== Proof.Places.lean ====
/-
# The buffers in pieces

The two scratch buffers are their slots, and the result is the blocks the four streams write: every group
of 64 rows is the block of one stream at one of its last hops.
-/
module

public import proofs.«01_k».proof.Proof.Body
public import Idealize.ShloMosaic.Lib.Pipeline.ValueKit.Geometry

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## A buffer whose elements are sorted by a key -/

theorem pieces {ℓ : Loc nD τ sig} {T : Type} [Fintype T] [DecidableEq T] (key : Idx ℓ → T) (P : T → Finset (Idx ℓ)) (h : ∀ t i, i ∈ P t ↔ key i = t)
    (q : PosShare TreeShare) (f : Buf (Elt F) ℓ) : (ℓ ↦[Finset.univ]{q} f : sProp 𝕄) = bigSep Finset.univ fun t => ℓ ↦[P t]{q} f := by
  rw [← pointsTo_biUnion Finset.univ P fun t _ t' _ hne => Finset.disjoint_left.mpr fun i h1 h2 => hne (((h t i).mp h1).symm.trans ((h t' i).mp h2))]
  congr 1
  ext i
  simp only [Finset.mem_univ, Finset.mem_biUnion, _root_.true_and, _root_.true_iff]
  exact ⟨key i, (h _ i).mpr rfl⟩

theorem pieces_split {ℓ : Loc nD τ sig} {T : Type} [Fintype T] [DecidableEq T] (key : Idx ℓ → T) (P : T → Finset (Idx ℓ)) (h : ∀ t i, i ∈ P t ↔ key i = t) :
    (slot ℓ Finset.univ : sProp 𝕄) ⊢ bigSep Finset.univ fun t => slot ℓ (P t) := by
  have one (f : Buf (Elt F) ℓ) (t : T) : (ℓ ↦[P t]{fullShare} f : sProp 𝕄) ⊢ slot ℓ (P t) := by
    unfold slot; iintro H; iexists f; iexact H
  have all (f : Buf (Elt F) ℓ) : (ℓ ↦[Finset.univ]{fullShare} f : sProp 𝕄) ⊢ bigSep Finset.univ fun t => slot ℓ (P t) := by
    rw [pieces key P h fullShare f]; exact bigSep_mono fun t _ => one f t
  unfold slot at all ⊢
  iintro ⟨%f, H⟩
  iapply (all f); iexact H

theorem pieces_join (m : (ℓ : Loc nD τ sig) → Buf (Elt F) ℓ) {ℓ : Loc nD τ sig} {T : Type} [Fintype T] [DecidableEq T] (key : Idx ℓ → T) (P : T → Finset (Idx ℓ)) (h : ∀ t i, i ∈ P t ↔ key i = t) :
    (bigSep Finset.univ fun t => slot ℓ (P t) : sProp 𝕄) ⊢ slot ℓ Finset.univ := by
  unfold slot
  haveI : ∀ t : T, Nonempty (Buf (Elt F) ℓ) := fun _ => ⟨m ℓ⟩
  refine (bigSep_exists_pi (Y := fun _ : T => Buf (Elt F) ℓ) Finset.univ (fun t f => (ℓ ↦[P t]{fullShare} f : sProp 𝕄))).trans ?_
  iintro ⟨%fs, H⟩
  ihave H' := (pointsTo_biUnion_join Finset.univ P fs (m ℓ) fun t _ t' _ hne => Finset.disjoint_left.mpr fun i h1 h2 => hne (((h t i).mp h1).symm.trans ((h t' i).mp h2))) $$ H
  icases H' with ⟨%g, %hg, H⟩
  have e : Finset.univ.biUnion P = Finset.univ := by
    ext i
    simp only [Finset.mem_univ, Finset.mem_biUnion, _root_.true_and, _root_.iff_true]
    exact ⟨key i, (h _ i).mpr rfl⟩
  iexists g
  iapply (Entails.of_eq (by rw [e])) $$ H

/-! ## The slots -/

theorem cV_mem (st p : Fin 4) (i : S4x4x64x1024.Idx) : i ∈ (cV st p).view.set ↔ ((i 0 : Fin 4), (i 1 : Fin 4)) = (st, p) := by
  have h : (cV st p).view.set = ((View.whole cc0_scratch0).slice (cR st p)).set := View.set_reshape _ _
  rw [h]
  refine ValueKit.mem_set_slice_whole_iff cc0_scratch0 (cR st p) i ?_
  rw [Rect.mem_set_unit]
  constructor
  · intro hi
    have h0 := hi 0
    have h1 := hi 1
    have e0 : st.val ≤ (i 0).val ∧ (i 0).val < st.val + 1 := h0
    have e1 : p.val ≤ (i 1).val ∧ (i 1).val < p.val + 1 := h1
    exact Prod.ext (Fin.ext (by show (i 0).val = st.val; omega)) (Fin.ext (by show (i 1).val = p.val; omega))
  · intro hi a
    have e0 : (i 0).val = st.val := congrArg (fun x : Fin 4 × Fin 4 => x.1.val) hi
    have e1 : (i 1).val = p.val := congrArg (fun x : Fin 4 × Fin 4 => x.2.val) hi
    have l2 : (i 2).val < 64 := (i 2).isLt
    have l3 : (i 3).val < 1024 := (i 3).isLt
    fin_cases a
    · show st.val ≤ (i 0).val ∧ (i 0).val < st.val + 1; omega
    · show p.val ≤ (i 1).val ∧ (i 1).val < p.val + 1; omega
    · show 0 ≤ (i 2).val ∧ (i 2).val < 0 + 64; omega
    · show 0 ≤ (i 3).val ∧ (i 3).val < 0 + 1024; omega

theorem bV_mem (st : Fin 4) (p : Fin 2) (i : S4x2x64x1024.Idx) : i ∈ (bV st p).view.set ↔ ((i 0 : Fin 4), (i 1 : Fin 2)) = (st, p) := by
  have h : (bV st p).view.set = ((View.whole cc0_scratch1).slice (bR st p)).set := View.set_reshape _ _
  rw [h]
  refine ValueKit.mem_set_slice_whole_iff cc0_scratch1 (bR st p) i ?_
  rw [Rect.mem_set_unit]
  constructor
  · intro hi
    have h0 := hi 0
    have h1 := hi 1
    have e0 : st.val ≤ (i 0).val ∧ (i 0).val < st.val + 1 := h0
    have e1 : p.val ≤ (i 1).val ∧ (i 1).val < p.val + 1 := h1
    exact Prod.ext (Fin.ext (by show (i 0).val = st.val; omega)) (Fin.ext (by show (i 1).val = p.val; omega))
  · intro hi a
    have e0 : (i 0).val = st.val := congrArg (fun x : Fin 4 × Fin 2 => x.1.val) hi
    have e1 : (i 1).val = p.val := congrArg (fun x : Fin 4 × Fin 2 => x.2.val) hi
    have l2 : (i 2).val < 64 := (i 2).isLt
    have l3 : (i 3).val < 1024 := (i 3).isLt
    fin_cases a
    · show st.val ≤ (i 0).val ∧ (i 0).val < st.val + 1; omega
    · show p.val ≤ (i 1).val ∧ (i 1).val < p.val + 1; omega
    · show 0 ≤ (i 2).val ∧ (i 2).val < 0 + 64; omega
    · show 0 ≤ (i 3).val ∧ (i 3).val < 0 + 1024; omega

/-- The slots of a stream: slot 0 and the three landing slots. -/
theorem slots4 (Φ : Fin 4 → sProp 𝕄) : bigSep Finset.univ Φ = iprop(Φ 0 ∗ bigSep Finset.univ fun p : Fin 3 => Φ (slotS p)) := by
  rw [four, bigSep_univ_eq_bigSepL [0, 1, 2] (by decide) (by decide) fun p : Fin 3 => Φ (slotS p)]
  rfl

theorem two (Φ : Fin 2 → sProp 𝕄) : bigSep Finset.univ Φ = iprop(Φ 0 ∗ Φ 1) :=
  bigSep_univ_eq_bigSepL [0, 1] (by decide) (by decide) Φ

theorem scratch0_split (c : Dev nD) :
    (slot ((c : Thread nD τ).loc cc0_scratch0) Finset.univ : sProp 𝕄)
      ⊢ bigSep Finset.univ fun st : Fin 4 => iprop(Any c (cV st 0) ∗ bigSep Finset.univ fun p : Fin 3 => Any c (cV st (slotS p))) := by
  refine (pieces_split (ℓ := (c : Thread nD τ).loc cc0_scratch0) (fun i : S4x4x64x1024.Idx => ((i 0 : Fin 4), (i 1 : Fin 4))) (fun x => (cV x.1 x.2).view.set) fun x i => cV_mem x.1 x.2 i).trans ?_
  rw [bigSep_univ_prod]
  exact bigSep_mono fun st _ => Entails.of_eq (slots4 fun p => Any c (cV st p))
theorem scratch0_join (m : (ℓ : Loc nD τ sig) → Buf (Elt F) ℓ) (c : Dev nD) :
    (bigSep Finset.univ fun st : Fin 4 => iprop(Any c (cV st 0) ∗ bigSep Finset.univ fun p : Fin 3 => Any c (cV st (slotS p))))
      ⊢ (slot ((c : Thread nD τ).loc cc0_scratch0) Finset.univ : sProp 𝕄) := by
  refine BIBase.Entails.trans ?_ (pieces_join m (ℓ := (c : Thread nD τ).loc cc0_scratch0) (fun i : S4x4x64x1024.Idx => ((i 0 : Fin 4), (i 1 : Fin 4))) (fun x => (cV x.1 x.2).view.set) fun x i => cV_mem x.1 x.2 i)
  rw [bigSep_univ_prod]
  exact bigSep_mono fun st _ => Entails.of_eq (slots4 fun p => Any c (cV st p)).symm

theorem scratch1_split (c : Dev nD) :
    (slot ((c : Thread nD τ).loc cc0_scratch1) Finset.univ : sProp 𝕄)
      ⊢ bigSep Finset.univ fun st : Fin 4 => iprop(Any c (bV st 0) ∗ Any c (bV st 1)) := by
  refine (pieces_split (ℓ := (c : Thread nD τ).loc cc0_scratch1) (fun i : S4x2x64x1024.Idx => ((i 0 : Fin 4), (i 1 : Fin 2))) (fun x => (bV x.1 x.2).view.set) fun x i => bV_mem x.1 x.2 i).trans ?_
  rw [bigSep_univ_prod]
  exact bigSep_mono fun st _ => Entails.of_eq (two fun p => Any c (bV st p))
theorem scratch1_join (m : (ℓ : Loc nD τ sig) → Buf (Elt F) ℓ) (c : Dev nD) :
    (bigSep Finset.univ fun st : Fin 4 => iprop(Any c (bV st 0) ∗ Any c (bV st 1)))
      ⊢ (slot ((c : Thread nD τ).loc cc0_scratch1) Finset.univ : sProp 𝕄) := by
  refine BIBase.Entails.trans ?_ (pieces_join m (ℓ := (c : Thread nD τ).loc cc0_scratch1) (fun i : S4x2x64x1024.Idx => ((i 0 : Fin 4), (i 1 : Fin 2))) (fun x => (bV x.1 x.2).view.set) fun x i => bV_mem x.1 x.2 i)
  rw [bigSep_univ_prod]
  exact bigSep_mono fun st _ => Entails.of_eq (two fun p => Any c (bV st p)).symm

/-! ## The result -/

/-- The stream and the last-hops number whose block a group of 64 rows is. -/
def groupSt (b : ℕ) : Fin 4 := ⟨b % 4 / 2 + 2 * (b % 2), by omega⟩
def groupIx (c : Dev nD) (b : ℕ) : Fin 16 :=
  if (groupSt b).val % 2 = 0 then ⟨(ringPos c + 17 - b / 4) % 16, Nat.mod_lt _ (by decide)⟩ else ⟨(b / 4 + 17 - ringPos c) % 16, Nat.mod_lt _ (by decide)⟩
/-- The group of 64 rows a stream writes. -/
def group (c : Dev nD) (st : Fin 4) (i : ℕ) : ℕ := 4 * chunk c st (15 + i) + offN st / 64

theorem group_lt (c : Dev nD) (st : Fin 4) (i : ℕ) : group c st i < 64 := by
  have h1 := chunk_lt c st (15 + i)
  have h2 := offN_le st
  unfold group; omega
theorem group_of : ∀ (c : Dev nD) (b : Fin 64), group c (groupSt b.val) (groupIx c b.val).val = b.val := by decide +kernel
theorem of_group : ∀ (c : Dev nD) (st : Fin 4) (i : Fin 16), groupSt (group c st i.val) = st ∧ groupIx c (group c st i.val) = i := by decide +kernel
theorem offN_group : ∀ st, 64 * (offN st / 64) = offN st := by decide

abbrev okey (c : Dev nD) (i : S4096x1024.Idx) : Fin 4 × Fin 16 := (groupSt ((i 0).val / 64), groupIx c ((i 0).val / 64))

/-- The elements of the result a stream writes at a hop, and at a last hop. -/
def oRows (c : Dev nD) (st : Fin 4) (h : ℕ) : Finset S4096x1024.Idx := (oV c st h).view.set
def oSet (c : Dev nD) (x : Fin 4 × Fin 16) : Finset S4096x1024.Idx := oRows c x.1 (15 + x.2.val)

theorem oRows_mem (c : Dev nD) (st : Fin 4) (h : ℕ) (i : S4096x1024.Idx) :
    i ∈ oRows c st h ↔ ∀ a, k0_off1 c (dirW st 16 h) (offW st) a ≤ i a ∧ (i a : ℕ) < k0_off1 c (dirW st 16 h) (offW st) a + S64x1024.size a := by
  refine ValueKit.mem_set_slice_whole_iff main_v1 (Rect.unit (s := S4096x1024) (k0_off1 c (dirW st 16 h) (offW st)) S64x1024.size (off_inb c st h true)) i ?_
  exact Rect.mem_set_unit

theorem Any_rows (c : Dev nD) (st : Fin 4) (h : ℕ) : (Any c (oV c st h) : sProp 𝕄) = slot ((c : Thread nD τ).loc main_v1) (oRows c st h) := rfl
theorem Has_rows (c : Dev nD) (st : Fin 4) (h : ℕ) (q : PosShare TreeShare) (f : Buf (Elt F) ((c : Thread nD τ).loc main_v1)) :
    ((c : Thread nD τ).loc main_v1 ↦[oRows c st h]{q} f : sProp 𝕄) = Has c (oV c st h) q ((oV c st h).view.read (Elt F) f) :=
  Has_eq c (oV c st h) q f

theorem oV_mem (c : Dev nD) (x : Fin 4 × Fin 16) (i : S4096x1024.Idx) : i ∈ oSet c x ↔ okey c i = x := by
  obtain ⟨st, k⟩ := x
  unfold oSet
  rw [oRows_mem]
  have e' : k0_off1 c (dirW st 16 (15 + k.val)) (offW st) = ![256 * chunk c st (15 + k.val) + offN st, 0] := off_eq c st (15 + k.val) true
  have l0 : (i 0).val < 4096 := (i 0).isLt
  have l1 : (i 1).val < 1024 := (i 1).isLt
  have hg : 64 * group c st k.val = 256 * chunk c st (15 + k.val) + offN st := by
    have := offN_group st
    unfold group; omega
  rw [e']
  constructor
  · intro hi
    have h0 : 256 * chunk c st (15 + k.val) + offN st ≤ (i 0).val ∧ (i 0).val < 256 * chunk c st (15 + k.val) + offN st + 64 := hi 0
    have hb : (i 0).val / 64 = group c st k.val := by omega
    have := of_group c st k
    exact Prod.ext (by show groupSt _ = st; rw [hb]; exact this.1) (by show groupIx c _ = k; rw [hb]; exact this.2)
  · intro hi a
    have h1 : groupSt ((i 0).val / 64) = st := congrArg Prod.fst hi
    have h2 : groupIx c ((i 0).val / 64) = k := congrArg Prod.snd hi
    have hb := group_of c ⟨(i 0).val / 64, by omega⟩
    dsimp only at hb
    rw [h1, h2] at hb
    fin_cases a
    · show 256 * chunk c st (15 + k.val) + offN st ≤ (i 0).val ∧ (i 0).val < 256 * chunk c st (15 + k.val) + offN st + 64; omega
    · show 0 ≤ (i 1).val ∧ (i 1).val < 0 + 1024; omega

/-- A row and a column, as an index of the row's group. -/
def inGroup (r k : ℕ) (hk : k < 1024) : S64x1024.Idx
  | ⟨0, _⟩ => ⟨r % 64, Nat.mod_lt _ (by decide)⟩
  | ⟨1, _⟩ => ⟨k, hk⟩

/-- The result on a device. -/
def outG (c : Dev nD) : S4096x1024.Idx → Elt F .f32 := fun i =>
  blk m (15 + (groupIx c ((i 0).val / 64)).val) c (groupSt ((i 0).val / 64)) (inGroup (i 0).val (i 1).val (i 1).isLt)

theorem out_read (c : Dev nD) (st : Fin 4) (k : Fin 16) : (oV c st (15 + k.val)).view.read (Elt F) (outG m c) = blk m (15 + k.val) c st := by
  funext j
  have e' : k0_off1 c (dirW st 16 (15 + k.val)) (offW st) = ![256 * chunk c st (15 + k.val) + offN st, 0] := off_eq c st (15 + k.val) true
  have h0 : ((oV c st (15 + k.val)).view.emb j 0).val = k0_off1 c (dirW st 16 (15 + k.val)) (offW st) 0 + (j 0).val :=
    ValueKit.view_emb_slice_whole_unit_val main_v1 _ _ _ j 0
  have h1 : ((oV c st (15 + k.val)).view.emb j 1).val = k0_off1 c (dirW st 16 (15 + k.val)) (offW st) 1 + (j 1).val :=
    ValueKit.view_emb_slice_whole_unit_val main_v1 _ _ _ j 1
  rw [e'] at h0 h1
  have l0 : (j 0).val < 64 := (j 0).isLt
  have hg : 64 * group c st k.val = 256 * chunk c st (15 + k.val) + offN st := by
    have := offN_group st
    unfold group; omega
  have h0' : ((oV c st (15 + k.val)).view.emb j 0).val = 64 * group c st k.val + (j 0).val := by rw [hg]; exact h0
  have h1' : ((oV c st (15 + k.val)).view.emb j 1).val = (j 1).val := h1.trans (Nat.zero_add _)
  have hb : ((oV c st (15 + k.val)).view.emb j 0).val / 64 = group c st k.val := by omega
  have hr : ((oV c st (15 + k.val)).view.emb j 0).val % 64 = (j 0).val := by omega
  have hs := of_group c st k
  show outG m c ((oV c st (15 + k.val)).view.emb j) = _
  unfold outG
  rw [hb, hs.1, hs.2]
  congr 1
  funext a
  fin_cases a
  · exact Fin.ext hr
  · exact Fin.ext h1'

theorem out_read' (c : Dev nD) (x : Fin 4 × Fin 16) :
    ((c : Thread nD τ).loc main_v1 ↦[oSet c x]{fullShare} (outG m c : Buf (Elt F) ((c : Thread nD τ).loc main_v1)) : sProp 𝕄)
      = Has c (oV c x.1 (15 + x.2.val)) fullShare (blk m (15 + x.2.val) c x.1) := by
  unfold oSet
  rw [Has_rows, out_read]

theorem out_split (c : Dev nD) (f : Buf (Elt F) ((c : Thread nD τ).loc main_v1)) :
    ((c : Thread nD τ).loc main_v1 ↦[Finset.univ]{fullShare} f : sProp 𝕄)
      ⊢ bigSep Finset.univ fun st : Fin 4 => bigSep Finset.univ fun i : Fin 16 => Any c (oV c st (15 + i.val)) := by
  have h1 : (bigSep Finset.univ fun x : Fin 4 × Fin 16 => slot ((c : Thread nD τ).loc main_v1) (oSet c x) : sProp 𝕄)
      = bigSep Finset.univ fun st : Fin 4 => bigSep Finset.univ fun i : Fin 16 => Any c (oV c st (15 + i.val)) := by
    rw [bigSep_univ_prod]
    exact bigSep_congr fun st _ => bigSep_congr fun i _ => (Any_rows c st (15 + i.val)).symm
  have h2 : ((c : Thread nD τ).loc main_v1 ↦[Finset.univ]{fullShare} f : sProp 𝕄) ⊢ slot ((c : Thread nD τ).loc main_v1) Finset.univ := by
    unfold slot
    iintro H
    iexists f
    iexact H
  rw [← h1]
  exact h2.trans (pieces_split (ℓ := (c : Thread nD τ).loc main_v1) (okey c) (oSet c) fun x i => oV_mem c x i)

theorem out_join (c : Dev nD) :
    (bigSep Finset.univ fun st : Fin 4 => bigSep Finset.univ fun i : Fin 16 => Has c (oV c st (15 + i.val)) fullShare (blk m (15 + i.val) c st))
      ⊢ ((c : Thread nD τ).loc main_v1 ↦[Finset.univ]{fullShare} (outG m c : Buf (Elt F) ((c : Thread nD τ).loc main_v1)) : sProp 𝕄) := by
  have h1 : (bigSep Finset.univ fun x : Fin 4 × Fin 16 => ((c : Thread nD τ).loc main_v1 ↦[oSet c x]{fullShare} (outG m c : Buf (Elt F) ((c : Thread nD τ).loc main_v1)) : sProp 𝕄))
      = bigSep Finset.univ fun st : Fin 4 => bigSep Finset.univ fun i : Fin 16 => Has c (oV c st (15 + i.val)) fullShare (blk m (15 + i.val) c st) := by
    rw [bigSep_univ_prod]
    exact bigSep_congr fun st _ => bigSep_congr fun i _ => out_read' m c (st, i)
  rw [← h1]
  exact Entails.of_eq (pieces (ℓ := (c : Thread nD τ).loc main_v1) (okey c) (oSet c) (fun x i => oV_mem c x i) fullShare (outG m c)).symm

/-! ## The argument -/

theorem arg_deal (c : Dev nD) :
    ((c : Thread nD τ).loc main_arg0 ↦[Finset.univ]{fullShare} m ((c : Thread nD τ).loc main_arg0) : sProp 𝕄) = bigSep Finset.univ fun st : Fin 4 => XAll m c st :=
  Transfers.pointsTo_deal Finset.univ ⟨0, Finset.mem_univ _⟩ fullShare

end Cert.RingProof

end
-- ==== Proof.Launch.lean ====
/-
# The launch

From the machine's first state to its last: the invariants are set up, every device gets its part, runs the
body, closes its semaphores and hands its buffers back. `run_main` is what the run leaves.
-/
module

public import proofs.«01_k».proof.Proof.Deal
public import proofs.«01_k».proof.Proof.Places
public import Idealize.ShloMosaic.Lib.Pipeline.CollectiveSegs

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Kind → ℕ) (ι : Key → ℕ)

/-! ## A stream at the start -/

def Slots (c : Dev nD) (st : Fin 4) : sProp 𝕄 := iprop(Any c (cV st 0) ∗ bigSep Finset.univ fun p : Fin 3 => Any c (cV st (slotS p)))
def Fetches (c : Dev nD) (st : Fin 4) : sProp 𝕄 := iprop(Any c (bV st 0) ∗ Any c (bV st 1))

/-- A stream's buffers: its slots, its fetch buffers, its share of the argument, its rows of the result. -/
def Bufs (c : Dev nD) (st : Fin 4) : sProp 𝕄 :=
  iprop(Slots c st ∗ Fetches c st ∗ XAll m c st ∗ bigSep Finset.univ fun i : Fin 16 => Any c (oV c st (15 + i.val)))

theorem start_of (c : Dev nD) (st : Fin 4) : iprop(recs m K ι ∗ Lin c st ∗ Due c st ∗ Bufs m c st) ⊢ Start m c st := by
  have hr (p : Fin 3) : rnd 0 p = 0 := by have := p.isLt; unfold rnd; omega
  have hout : iprop((bigSep Finset.univ fun i : Fin 16 => Any c (oV c st (15 + i.val))) ∗ bigSep (Finset.Ico 0 16) fun i => dutyTok ER (cell c (kO st)) i 0)
      ⊢ (Outs m c st 0 0 : sProp 𝕄) := by
    unfold Outs
    rw [Finset.range_zero, bigSep_empty, bigSep_sep', below' 16 (fun i => Any c (oV c st (15 + i)))]
    iintro ⟨H1, H2⟩
    isplitr; · iempintro
    isplitl [H1] <;> iassumption
  unfold Start Lin Due Bufs Slots Fetches Arr SndI OutI FxCore Crd
  simp only [hr]
  rw [if_pos (by decide : 0 < 27)]
  iintro ⟨#HR, ⟨HaR, ⟨HaS, HtS⟩, ⟨HaO, HtO⟩, Hrd, ⟨HaX, HtX⟩, Hsig, HaC⟩, ⟨HcC, HcR⟩, ⟨Hc0, Hcs⟩, ⟨Hb0, Hb1⟩, HX, Hout⟩
  isplitl [HcR HaR]
  · isplitl [HcR] <;> iassumption
  isplitl [HaS HtS]
  · isplitl [HaS]; · iexact HaS
    isplitr; · iapply (recs_reached m K ι c (kSnd st)); iexact HR
    iexact HtS
  isplitl [HaO HtO Hout]
  · isplitl [HaO]; · iexact HaO
    isplitr; · iapply (recs_reached m K ι c (kO st)); iexact HR
    iapply hout
    isplitl [Hout] <;> iassumption
  isplitl [Hc0]; · iexact Hc0
  isplitl [Hcs]; · iexact Hcs
  isplitl [Hrd]; · iexact Hrd
  isplitl [HaX HtX]
  · isplitl [HaX]; · iexact HaX
    isplitr; · iapply (recs_reached m K ι c (kX st)); iexact HR
    iexact HtX
  isplitl [HX]; · iexact HX
  isplitl [Hb0]; · iexact Hb0
  isplitl [Hb1]; · iexact Hb1
  isplitl [Hsig]; · iexact Hsig
  isplitl [HcC]; · iexact HcC
  iexists ∅
  isplitr; · ipureintro; exact Finset.empty_subset _
  isplitl [HaC]; · iexact HaC
  rw [bigSep_empty]; iempintro

/-! ## A stream at the end -/

/-- A stream's buffers at the end: as at the start, its rows of the result now holding the sums. -/
def Left (c : Dev nD) (st : Fin 4) : sProp 𝕄 :=
  iprop(Slots c st ∗ Fetches c st ∗ XAll m c st
    ∗ bigSep Finset.univ fun i : Fin 16 => Has c (oV c st (15 + i.val)) fullShare (blk m (15 + i.val) c st))

/-- A stream's semaphores, at zero. -/
def Zero (c : Dev nD) (st : Fin 4) : sProp 𝕄 :=
  iprop(semVal (cell c (kCrd st)) 0 ∗ semVal (cell c (kSnd st)) 0 ∗ (bigSep Finset.univ fun p => semVal (cell c (kRcv st p)) 0)
    ∗ semVal (cell c (kX st)) 0 ∗ semVal (cell c (kO st)) 0)

theorem close_one (c : Dev nD) (k : Kind) : iprop(recs m K ι ∗ atPos ER (cell c k) (rounds k) ∅ 0) ⊢ |={Set.univ}=> semVal (cell c k) 0 := by
  iintro ⟨HR, Ha⟩
  iapply (cell_close ER (Rd m) (Set.mem_univ (K (c, k))) (fun h => h) (Rd_later m c k))
  isplitl [HR]; · iapply (recs_cell m K ι c k); iexact HR
  iexact Ha

theorem end_of (c : Dev nD) (st : Fin 4) : iprop(recs m K ι ∗ Fin' m c st) ⊢ |={Set.univ}=> iprop(Left m c st ∗ Zero c st) := by
  have hr : ∀ p : Fin 3, rnd 30 p = rounds (kRcv st p) := by
    intro p; have := p.isLt; show (30 + 2 - p.val) / 3 = 10; omega
  have hl : (bigSep (Finset.Ico 27 29) fun i => (Any c (cV st (slotOf i)) : sProp 𝕄)) = iprop(Any c (cV st 1) ∗ Any c (cV st 2)) := by
    rw [take_head (by decide), take_head (by decide), Finset.Ico_self, bigSep_empty]
    have h1 : slotOf 27 = 1 := by decide
    have h2 : slotOf (27 + 1) = 2 := by decide
    rw [h1, h2]; exact equiv_iff.mp ⟨BI.sep_mono (BI.Entails.refl _) sep_emp.1, BI.sep_mono (BI.Entails.refl _) sep_emp.2⟩
  have hp : (bigSep Finset.univ fun p : Fin 3 => (Any c (cV st (slotS p)) : sProp 𝕄)) = iprop(Any c (cV st 1) ∗ Any c (cV st 2) ∗ Any c (cV st 3)) :=
    bigSep_univ_eq_bigSepL [0, 1, 2] (by decide) (by decide) _
  have hrcv : iprop(recs m K ι ∗ bigSep Finset.univ fun p : Fin 3 => atPos ER (cell c (kRcv st p)) (rounds (kRcv st p)) ∅ 0)
      ⊢ |={Set.univ}=> (bigSep Finset.univ fun p : Fin 3 => semVal (cell c (kRcv st p)) 0) :=
    (bigSep_with_persistent (R := recs m K ι) fun p _ => close_one m K ι c (kRcv st p)).trans (bigSep_fupd _ _)
  unfold Fin' Left Slots Fetches Zero Arr SndI OutI Outs FxB FxCore Land Crd
  simp only [hr]
  rw [hl, hp, below 16 (fun i => Has c (oV c st (15 + i)) fullShare (blk m (15 + i) c st)), if_neg (by decide : ¬ 30 ≤ 15), if_neg (by decide : ¬ 27 < 27),
    show par 30 = 0 by decide, show par (30 + 1) = 1 by decide]
  iintro ⟨#HR, ⟨-, HaR⟩, ⟨HaS, -, -⟩, ⟨HaO, -, Ho, -⟩, Hc0, Hc3, ⟨⟨⟨HaX, -, -⟩, HX, Hb0⟩, Hb1⟩, ⟨-, -, Hc1, Hc2⟩, -, HaC⟩
  imod (close_one m K ι c (kCrd st)) $$ [HaC] with HaC
  · isplitr; · iexact HR
    iexact HaC
  imod (close_one m K ι c (kSnd st)) $$ [HaS] with HaS
  · isplitr; · iexact HR
    iexact HaS
  imod hrcv $$ [HaR] with HaR
  · isplitr; · iexact HR
    iexact HaR
  imod (close_one m K ι c (kX st)) $$ [HaX] with HaX
  · isplitr; · iexact HR
    iexact HaX
  imod (close_one m K ι c (kO st)) $$ [HaO] with HaO
  · isplitr; · iexact HR
    iexact HaO
  imodintro
  isplitr [HaC HaS HaR HaX HaO]
  · isplitl [Hc0 Hc1 Hc2 Hc3]
    · isplitl [Hc0]; · iexact Hc0
      isplitl [Hc1]; · iexact Hc1
      isplitl [Hc2] <;> iassumption
    isplitl [Hb0 Hb1]
    · isplitl [Hb0] <;> iassumption
    isplitl [HX]; · iexact HX
    iexact Ho
  isplitl [HaC]; · iexact HaC
  isplitl [HaS]; · iexact HaS
  isplitl [HaR]; · iexact HaR
  isplitl [HaX] <;> iassumption

/-! ## A device -/

/-- The records without the levels. -/
def recs₀ : sProp 𝕄 :=
  iprop((bigSep Finset.univ fun x : Dev nD × Kind => cellInv ER (Rd m) (K x) (cell x.1 x.2))
    ∗ (bigSep Finset.univ fun x : Dev nD × Kind => reached ER (cell x.1 x.2) 0)
    ∗ (bigSep Finset.univ fun k : Key => slotInv ES (ι k) k (keySlot k)))
instance recs₀_persistent : BI.Persistent (recs₀ m K ι) := by unfold recs₀; infer_instance

theorem recs_of : iprop(recs₀ m K ι ∗ levAts L lv) ⊢ recs m K ι := by
  unfold recs₀ recs
  iintro ⟨⟨H1, H2, H3⟩, H4⟩
  isplitl [H1]; · iexact H1
  isplitl [H2]; · iexact H2
  isplitl [H3] <;> iassumption

/-- The semaphores a launch scopes to the kernel. -/
abbrev OwnK : Type := Fin 4 ⊕ Fin 4 ⊕ (Fin 4 × Fin 3) ⊕ Fin 4 ⊕ Fin 4
def ownSem (k : OwnK) : SemLoc sig := semOf (.inr k)

theorem ownSemFacts : Pipeline.OwnSemFacts cfg0.spec ownSem := by decide

abbrev ownZero (c : Dev nD) : sProp 𝕄 := Pipeline.ownSems0 (Ix := ℕ) (Name := ℕ) (U := UU) (Lvl := ℕ) (Val := Elt F) (τ := τ) ownSem c

theorem bar_zero (c : Dev nD) : (unscopedSems0 c : sProp 𝕄) = semVal (cell c kBar) 0 := by
  unfold unscopedSems0; rw [bigSep_eq_bigSepL_of_eq [SemLoc.reg barS] (by decide) (by decide)]; rfl

/-- All semaphores of a device, at zero. -/
theorem all_zero (c : Dev nD) :
    (bigSep Finset.univ fun k : Kind => semVal (cell c k) 0 : sProp 𝕄) = iprop(unscopedSems0 c ∗ ownZero c) := by
  rw [bar_zero, bigSep_univ_sum, bigSep_univ_eq_bigSepL [()] (by decide) (by decide)]
  rfl

theorem streams_zero (c : Dev nD) : (bigSep Finset.univ fun st => (Zero c st : sProp 𝕄)) = ownZero c := by
  unfold Zero ownZero Pipeline.ownSems0
  rw [bigSep_univ_sum, bigSep_univ_sum, bigSep_univ_sum, bigSep_univ_sum, bigSep_univ_prod]
  simp only [bigSep_sep']
  rfl

/-- What the launch's start hands a device. -/
def Hand (c : Dev nD) : sProp 𝕄 :=
  iprop((∃ K ι, recs m K ι) ∗ Lot c ∗ ((bigSep Finset.univ fun st => Due c st) ∗ cred (tallyAt (cell c kBar) 0 2))
    ∗ ((c : Thread nD τ).loc main_arg0 ↦[Finset.univ]{fullShare} m ((c : Thread nD τ).loc main_arg0))
    ∗ ((c : Thread nD τ).loc main_v1 ↦[Finset.univ]{fullShare} m ((c : Thread nD τ).loc main_v1)))

/-- The body's scratch buffers. -/
def Scr (c : Dev nD) : sProp 𝕄 :=
  iprop(slot ((c : Thread nD τ).loc cc0_scratch0) Finset.univ ∗ slot ((c : Thread nD τ).loc cc0_scratch1) Finset.univ)

/-- What a device hands back besides its scratch: its semaphores at zero, the argument, and the result. -/
def Ret (c : Dev nD) : sProp 𝕄 :=
  iprop(unscopedSems0 c ∗ ((c : Thread nD τ).loc main_arg0 ↦[Finset.univ]{fullShare} m ((c : Thread nD τ).loc main_arg0))
    ∗ ((c : Thread nD τ).loc main_v1 ↦[Finset.univ]{fullShare} (outG m c : Buf (Elt F) ((c : Thread nD τ).loc main_v1))))

theorem hand_start (c : Dev nD) :
    iprop(recs m K ι ∗ (bigSep Finset.univ fun st => Lin c st) ∗ (bigSep Finset.univ fun st => Due c st) ∗ Scr c
      ∗ ((c : Thread nD τ).loc main_arg0 ↦[Finset.univ]{fullShare} m ((c : Thread nD τ).loc main_arg0))
      ∗ ((c : Thread nD τ).loc main_v1 ↦[Finset.univ]{fullShare} m ((c : Thread nD τ).loc main_v1)))
      ⊢ iprop(Start m c 0 ∗ Start m c 1 ∗ Start m c 2 ∗ Start m c 3) := by
  rw [← four (fun st => Start m c st), arg_deal]
  have all := bigSep_with_persistent (S := (Finset.univ : Finset (Fin 4))) (R := recs m K ι) fun st _ => start_of m K ι c st
  rw [bigSep_sep', bigSep_sep'] at all
  refine BIBase.Entails.trans ?_ all
  unfold Bufs Scr
  rw [bigSep_sep', bigSep_sep', bigSep_sep']
  iintro ⟨HR, HL, HD, ⟨H0, H1⟩, HX, HO⟩
  isplitl [HR]; · iexact HR
  isplitl [HL]; · iexact HL
  isplitl [HD]; · iexact HD
  isplitl [H0]; · iapply (scratch0_split (F := F) c); iexact H0
  isplitl [H1]; · iapply (scratch1_split (F := F) c); iexact H1
  isplitl [HX]; · iexact HX
  iapply (out_split c (m ((c : Thread nD τ).loc main_v1))); iexact HO

theorem done_back (c : Dev nD) : iprop(recs m K ι ∗ Done m c) ⊢ |={Set.univ}=> iprop(Ret m c ∗ ownZero c ∗ Scr c) := by
  have all := (bigSep_with_persistent (S := (Finset.univ : Finset (Fin 4))) (R := recs m K ι) fun st _ => end_of m K ι c st).trans (bigSep_fupd _ _)
  rw [bigSep_sep', streams_zero] at all
  unfold Left at all
  rw [bigSep_sep', bigSep_sep', bigSep_sep', ← arg_deal] at all
  unfold Done Ret Scr
  rw [← four (fun st => Fin' m c st), bar_zero]
  iintro ⟨#HR, HF, Hb⟩
  imod all $$ [HF] with ⟨⟨H0, H1, HX, HO⟩, HZ⟩
  · isplitr; · iexact HR
    iexact HF
  imod (close_one m K ι c kBar) $$ [Hb] with Hb
  · isplitr; · iexact HR
    iexact Hb
  imodintro
  isplitl [Hb HX HO]
  · isplitl [Hb]; · iexact Hb
    isplitl [HX]; · iexact HX
    iapply (out_join m c); iexact HO
  isplitl [HZ]; · iexact HZ
  isplitl [H0]; · iapply (scratch0_join m c); iexact H0
  iapply (scratch1_join m c); iexact H1

/-- A device's run of the body. -/
theorem device (c : Dev nD) :
    iprop((Hand m c ∗ Scr c) ∗ ∃ W, owes (c : Thread nD τ) (O₀ c) W)
      ⊢ wpc c whole fun _ => iprop((Ret m c ∗ ownZero c ∗ Scr c) ∗ ∃ W, owes (c : Thread nD τ) 0 W) := by
  have fin (K : Dev nD × Kind → ℕ) (ι : Key → ℕ) : iprop(recs m K ι ∗ Done m c ∗ ∃ W, owes (c : Thread nD τ) 0 W)
      ⊢ |={Set.univ}=> iprop((Ret m c ∗ ownZero c ∗ Scr c) ∗ ∃ W, owes (c : Thread nD τ) 0 W) := by
    iintro ⟨HR, HD, HO⟩
    imod (done_back m K ι c) $$ [HR HD] with H
    · isplitl [HR] <;> iassumption
    imodintro
    isplitl [H] <;> iassumption
  unfold Hand Lot
  iintro ⟨⟨⟨⟨%K, %ι, #HR⟩, ⟨⟨Ht0, Ht1, HaB⟩, HL⟩, ⟨HD, Hc⟩, HX, HV⟩, HS⟩, HO⟩
  ihave Hst := (hand_start m K ι c) $$ [HL HD HX HV HS]
  · isplitr; · iexact HR
    isplitl [HL]; · iexact HL
    isplitl [HD]; · iexact HD
    isplitl [HS]; · iexact HS
    isplitl [HX] <;> iassumption
  ihave Hw := (whole_step m K ι c) $$ [Hst Ht0 Ht1 HaB Hc HO]
  · isplitr; · iexact HR
    isplitl [Hst]; · iexact Hst
    isplitl [Ht0 Ht1 HaB Hc]
    · unfold Bar
      isplitl [Ht0]; · iexact Ht0
      isplitl [Ht1]; · iexact Ht1
      isplitl [Hc] <;> iassumption
    iexact HO
  unfold wpc
  iapply (wp_fupd frame (wpE (defs₀ (F := F)) 𝒱₀ (c : Thread nD τ) none) Set.univ)
  iapply (wp_wand frame (wpE (defs₀ (F := F)) 𝒱₀ (c : Thread nD τ) none) Set.univ) $$ Hw
  iintro %u H
  iapply (fin K ι)
  isplitr; · iexact HR
  iexact H

end Cert.RingProof

end
-- ==== Proof.Run.lean ====
/-
# The run

The kernel's whole run, over any float values: it ends, the argument is unchanged, the result on every device
is what the ring's last blocks say, and every semaphore is at zero.
-/
module

public import proofs.«01_k».proof.Proof.Launch

@[expose] public section

set_option maxRecDepth 10000

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## Setting up -/

def u₀ : UU :=
  (initOf (Pipeline.cells cfgs cellOf_inj) (Pipeline.launchToks cfgs cellOf_inj), initOf cells toks, initSlots (Finset.univ : Finset Key) 10)

/-- What everyone knows of the slots and of the semaphores' first rounds. -/
def Known (ι : Key → ℕ) : sProp 𝕄 :=
  iprop((bigSep Finset.univ fun x : Dev nD × Kind => reached ER (cell x.1 x.2) 0)
    ∗ (bigSep Finset.univ fun k : Key => slotInv ES (ι k) k (keySlot k)))
instance Known_persistent (ι : Key → ℕ) : BI.Persistent (Known ι : sProp 𝕄) := by unfold Known; infer_instance

/-- A device's part of the first element, and what becomes of it once the semaphores are behind invariants. -/
def Share (c : Dev nD) : sProp 𝕄 := iprop((bigSep Finset.univ fun k : Kind => roundState ER (Rd m) (cell c k) 0) ∗ (∃ ι, Known ι) ∗ Lot c)
def Share' (c : Dev nD) : sProp 𝕄 := iprop((∃ K ι, recs₀ m K ι) ∗ Lot c)

theorem setup (E : Set ℕ) : iprop(BI.own (ER (initOf cells toks)) ∗ BI.own (ES (initSlots (Finset.univ : Finset Key) 10))) ⊢ |={E}=> bigSep Finset.univ fun c => Share m c := by
  have hreach : (bigSep cells fun g => (reached ER g 0 : sProp 𝕄)) = bigSep Finset.univ fun x : Dev nD × Kind => reached ER (cell x.1 x.2) 0 := by
    rw [over_cells, bigSep_univ_prod]
  have hall (ι : Key → ℕ) : iprop(Known ι ∗ (bigSep Finset.univ fun c => bigSep Finset.univ fun k : Kind => roundState ER (Rd m) (cell c k) 0)
      ∗ bigSep Finset.univ fun c => Lot c) ⊢ bigSep Finset.univ fun c => Share m c := by
    rw [← bigSep_sep']
    refine bigSep_with_persistent fun c _ => ?_
    unfold Share
    iintro ⟨#HK, H1, H2⟩
    isplitl [H1]; · iexact H1
    isplitr
    · iexists ι; iexact HK
    iexact H2
  iintro ⟨HX, HS⟩
  imod (Rounds.fund ER (Rd m) cells toks) $$ HX with ⟨Hst, Hr, Hat, Htok⟩
  imod (slots_init ES (Es := E) (Finset.univ : Finset Key) 10 keySlot) $$ HS with ⟨%ι, -, Hi, Hrd, Hw⟩
  imodintro
  ihave Hst' := (Entails.of_eq (over_cells fun g => roundState ER (Rd m) g 0)) $$ Hst
  ihave Hr' := (Entails.of_eq hreach) $$ Hr
  iapply (hall ι)
  isplitl [Hr' Hi]
  · unfold Known
    isplitl [Hr']; · iexact Hr'
    iexact Hi
  isplitl [Hst']; · iexact Hst'
  iapply (deal (F := F))
  isplitl [Hat]; · iexact Hat
  isplitl [Htok]; · iexact Htok
  isplitl [Hrd]; · iexact Hrd
  iexact Hw

/-- A device's semaphores behind their invariants. -/
theorem guard (c : Dev nD) :
    iprop(ownZero c ∗ unscopedSems0 c ∗ Share m c)
      ⊢ |={Set.univ}=> iprop((bigSep Finset.univ fun k : Kind => iprop(∃ κ : ℕ, cellInv ER (Rd m) κ (cell c k))) ∗ (∃ ι, Known ι) ∗ Lot c) := by
  have h : iprop((bigSep Finset.univ fun k : Kind => semVal (cell c k) 0) ∗ bigSep Finset.univ fun k : Kind => roundState ER (Rd m) (cell c k) 0)
      ⊢ (|={Set.univ}=> bigSep Finset.univ fun k : Kind => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  rw [all_zero] at h
  unfold Share
  iintro ⟨Ho, Hu, Hst, HK, HL⟩
  imod h $$ [Ho Hu Hst] with Hi
  · isplitl [Ho Hu]
    · isplitl [Hu] <;> iassumption
    iexact Hst
  imodintro
  isplitl [Hi]; · iexact Hi
  isplitl [HK] <;> iassumption

theorem gather :
    (bigSep Finset.univ fun c => iprop((bigSep Finset.univ fun k : Kind => iprop(∃ κ : ℕ, cellInv ER (Rd m) κ (cell c k))) ∗ (∃ ι, Known ι) ∗ Lot c) : sProp 𝕄)
      ⊢ bigSep Finset.univ fun c => Share' m c := by
  rw [bigSep_sep', ← bigSep_univ_prod (fun x : Dev nD × Kind => iprop(∃ κ : ℕ, cellInv ER (Rd m) κ (cell x.1 x.2)))]
  have hall (K : Dev nD × Kind → ℕ) : iprop((bigSep Finset.univ fun x : Dev nD × Kind => cellInv ER (Rd m) (K x) (cell x.1 x.2))
      ∗ bigSep Finset.univ fun c => iprop((∃ ι, Known ι) ∗ Lot c)) ⊢ bigSep Finset.univ fun c => Share' m c := by
    refine bigSep_with_persistent fun c _ => ?_
    unfold Share' Known recs₀
    iintro ⟨#HK, ⟨%ι, HR, HS⟩, HL⟩
    isplitr [HL]
    · iexists K, ι
      isplitr; · iexact HK
      isplitl [HR]; · iexact HR
      iexact HS
    iexact HL
  iintro ⟨HI, H⟩
  ihave HK := (BI.bigSep_exists_pi Finset.univ (fun (x : Dev nD × Kind) (κ : ℕ) => (cellInv ER (Rd m) κ (cell x.1 x.2) : sProp 𝕄))) $$ HI
  icases HK with ⟨%K, HI⟩
  iapply (hall K)
  isplitl [HI] <;> iassumption

theorem glob : (bigSep Finset.univ fun c => iprop(ownZero c ∗ unscopedSems0 c ∗ Share m c) : sProp 𝕄) ⊢ |={Set.univ}=> bigSep Finset.univ fun c => Share' m c :=
  ((bigSep_mono fun c _ => guard m c).trans (bigSep_fupd _ _)).trans (BI.fupd_mono (gather m))

/-! ## The body's place in the launch -/

def dats (_ : Fin 1) (c : Dev nD) : Dat τ (Elt F) ℕ ℕ UU ℕ cfg0 c where
  A w := (s₀ m ρ).mem ((cfg0.win w).arr.view.loc (c : Thread nD τ))
  after w _ := w.elim0
  Φ t := match t with
    | ⟨0, _⟩ => iprop(Hand m c ∗ Scr c)
    | ⟨_ + 1, _⟩ => iprop(Ret m c ∗ ownZero c ∗ Scr c)
  q _ := fullShare
  owed t := match t with
    | ⟨0, _⟩ => O₀ c
    | ⟨_ + 1, _⟩ => 0

theorem share_eq (c : Dev nD) (w : Fin cfg0.W) : (dats m ρ 0 c).share w = fullShare := w.elim0

theorem scr_eq (c : Dev nD) : (Pipeline.scopedRest cfg0.spec c : sProp 𝕄) = Scr c := by rw [scopedRest0_eq]; rfl

theorem no_windows (Φ : Fin cfg0.W → sProp 𝕄) : bigSep Finset.univ Φ = iprop(emp) := by
  rw [show (Finset.univ : Finset (Fin cfg0.W)) = ∅ from Finset.eq_empty_of_forall_notMem fun w => w.elim0, bigSep_empty]; rfl

theorem called (t : Fin cfg0.N) : defs₀ (F := F) .tc cfg0.body (cfg0.bodyArgs t (cfg0.slots t)) = whole := by chain_rfl

theorem Φ_first (c : Dev nD) : (dats m ρ 0 c).Φ t0_0.castSucc = iprop(Hand m c ∗ Scr c) := rfl
theorem Φ_last (c : Dev nD) : (dats m ρ 0 c).Φ t0_0.succ = iprop(Ret m c ∗ ownZero c ∗ Scr c) := rfl

theorem body_obligation (c : Dev nD) : BodyObligation (dats m ρ 0 c) (defs₀ (F := F)) 𝒱₀ 0 Set.univ := fun t => by
  rw [fin_N0 t, called, no_windows, no_windows, Φ_first, Φ_last]
  unfold Dat.owesAt Pipeline.owesWithin
  rw [show (dats m ρ 0 c).owed t0_0.castSucc = O₀ c from rfl, show (dats m ρ 0 c).owed t0_0.succ = 0 from rfl]
  iintro ⟨H, ⟨%W, -, HO⟩, -⟩
  ihave Hw := (device m c) $$ [H HO]
  · isplitl [H]; · iexact H
    iexists W; iexact HO
  unfold wpc
  iapply (wp_wand frame (wpE (defs₀ (F := F)) 𝒱₀ (c : Thread nD τ) none) Set.univ) $$ Hw
  iintro %u ⟨H, ⟨%W', HO⟩⟩
  isplitl [H]; · iexact H
  isplitl [HO]
  · iexists W'
    isplitr; · ipureintro; exact fun _ _ => Or.inl trivial
    iexact HO
  iempintro

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ Share' m c)
      ⊢ |={Set.univ}=> iprop(Hand m c ∗ emp) := by
  rw [Pipeline.unscopedRestP_none, unscopedRest0_eq]
  unfold Share' Hand
  iintro ⟨⟨HX, HV⟩, Hlev, Hcr, -, ⟨%K, %ι, HR⟩, HL⟩
  ihave Hc := (credits (F := F) c) $$ Hcr
  imodintro
  isplitl
  · isplitl [HR Hlev]
    · iexists K, ι
      iapply (recs_of m K ι)
      isplitl [HR] <;> iassumption
    isplitl [HL]; · iexact HL
    isplitl [Hc]; · iexact Hc
    isplitl [HX] <;> iassumption
  iempintro

theorem Φ_zero (c : Dev nD) : (dats m ρ 0 c).Φ 0 = iprop(Hand m c ∗ Scr c) := rfl
theorem Φ_end (c : Dev nD) : (dats m ρ 0 c).Φ (Fin.last cfg0.N) = iprop(Ret m c ∗ ownZero c ∗ Scr c) := rfl

theorem start_body (c : Dev nD) :
    iprop(Hand m c ∗ Pipeline.prefHeld Pipeline.Prefetch.none c (fun _ => fullShare.right) (fun k => k.elim0) ∗ Pipeline.scopedRest cfg0.spec c)
      ⊢ (dats m ρ 0 c).Φ 0 := by
  rw [scr_eq, Φ_zero]
  iintro ⟨H, -, HS⟩
  isplitl [H] <;> iassumption

theorem finish (c : Dev nD) :
    (dats m ρ 0 c).Φ (Fin.last cfg0.N) ⊢ iprop(Ret m c ∗ Pipeline.ownSems0 ownSem c ∗ Pipeline.scopedRest cfg0.spec c) := by
  rw [scr_eq, Φ_end]

theorem first : (ownU u₀ : sProp 𝕄) ⊢ |={Set.univ}=> iprop(BI.own (EP (initOf (Pipeline.cells cfgs cellOf_inj) (Pipeline.launchToks cfgs cellOf_inj)))
    ∗ bigSep Finset.univ fun c => Share m c) := by
  unfold u₀
  iintro Hu
  ihave H := (ownU_pair _ _) $$ Hu
  icases H with ⟨HP, HX⟩
  ihave H := (own_pair_emb _ _ _) $$ HX
  imod (setup m Set.univ) $$ H with HG
  imodintro
  isplitl [HP] <;> iassumption

theorem waits (c : Dev nD) : (levAts L lv : sProp 𝕄) ⊢ Pipeline.cellsWaits cfgs (dats m ρ) 0 0 c :=
  Pipeline.cellsWaits_intro cfgs (dats m ρ) 0 0 c fun w s t => w.elim0

/-! ## The run -/

/-- What a device's memory holds at the end. -/
def End (c : Dev nD) (s : MemSt nD τ sig (Elt F)) : Prop :=
  s.mem ((c : Thread nD τ).loc main_arg0) = m ((c : Thread nD τ).loc main_arg0) ∧ s.mem ((c : Thread nD τ).loc main_v1) = outG m c

theorem leave (c : Dev nD) (s' : Phys nD τ sig (Elt F)) :
    iprop(Ret m c ∗ emp ∗ SI s')
      ⊢ |={Set.univ}=> iprop(⌜End m c s'.mem ∧ ∀ sm : SemLoc sig, sm.isScoped .tc = false → s'.mem.sem ((c.tc : Thread nD τ), sm) = 0⌝ ∗ SI s') := by
  unfold Ret End
  iintro ⟨⟨Hu, HX, HV⟩, -, HSI⟩
  imod (Pipeline.unscopedSems0_read (X := unscopedSems0 c) (c := c) fupd_intro s') $$ [Hu HSI] with ⟨%h0, HSI⟩
  · isplitl [Hu] <;> iassumption
  icombine HSI HX gives %h1
  icombine HSI HV gives %h2
  imodintro
  isplitr
  · ipureintro
    exact ⟨⟨funext fun i => h1 i (Finset.mem_univ i), funext fun i => h2 i (Finset.mem_univ i)⟩, h0⟩
  iexact HSI

set_option maxRecDepth 100000 in
/-- Over any float values, from any memory with zero counters: every fair run of the kernel ends, with the argument as it
    was, the result on every device in closed form and all semaphores at zero. -/
theorem run_main : θ_run defs (onTc (τ := τ) (main (F := F))) (s₀ m ρ) (fun r => (∀ c, End m c r.2) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := fun c => Share m c) (G' := fun c => Share' m c) (u₀ := u₀)
    (hu₀ := first m)
    (hglob := glob m)
    (hA := fun _ _ => rfl) (hpf := fun _ k => k.elim0)
    (X := fun c => Hand m c) (Y := fun c => Ret m c) (Z := fun _ => iprop(emp))
    (hX := enter m ρ)
    (hin := start_body m ρ) (hout := finish m ρ)
    (QY := fun c s => End m c s ∧ ∀ sm : SemLoc sig, sm.isScoped .tc = false → s.sem ((c.tc : Thread nD τ), sm) = 0)
    (hY := leave m)
    (hQ := fun _ h hs => ⟨fun c => (h c).2.2.1, sem_eq_zero hs fun c => (h c).2.2.2⟩)

end Cert.RingProof

end
-- ==== Proof.Value.lean ====
/-
# The values

Over the extended reals the block a stream holds at a hop is the sum of the same rows over the devices it has
passed. After fifteen hops these are all sixteen devices, so the result is the sum of the devices' arrays, on every
device; and the reference, the sum of the whole array's sixteen slices, is the same sum.
-/
module

public import proofs.«01_k».proof.Proof.Run
public import proofs.«01_k».proof.Proof.Gen.ReferenceIdeal.Run
public import Idealize.ShloMosaic.Lib.IdealHost
public import Idealize.ShloMosaic.Lib.Layout
public import Idealize.ShloMosaic.Lib.Pipeline.Value

@[expose] public section

set_option maxRecDepth 10000

noncomputable section

namespace Cert.RingProof

open Cert.KernelIdeal Cert.KernelIdeal.Gen
open Idealize.ShloMosaic Idealize.ShloMosaic.TcCoe

/-! ## A block is a sum -/

section Block

variable (m : (ℓ : Loc nD τ sig) → Buf (Elt Ideal) ℓ)

/-- An element of a device's array, as an extended real. -/
def held (i : S4096x1024.Idx) (c : Dev nD) : EReal := (m ((c : Thread nD τ).loc main_arg0) : S4096x1024.Idx → EReal) i

/-- The element `j` of the rows a stream handles at a hop is the element `i` of the array. -/
def Lands (c : Dev nD) (st : Fin 4) (h : ℕ) (j : S64x1024.Idx) (i : S4096x1024.Idx) : Prop :=
  256 * chunk c st h + offN st + (j 0).val = (i 0).val ∧ (j 1).val = (i 1).val

/-- A stream brings a device the rows it handles there a hop later. -/
theorem chunk_next : ∀ (c : Dev nD) (st : Fin 4) (h : Fin 31), chunk (src st c) st h.val = chunk c st (h.val + 1) := by decide +kernel

theorem Lands.back {c : Dev nD} {st : Fin 4} {h : ℕ} {j : S64x1024.Idx} {i : S4096x1024.Idx} (hh : h < 31) (l : Lands c st (h + 1) j i) :
    Lands (src st c) st h j i := by
  have e := chunk_next c st ⟨h, hh⟩
  dsimp only at e
  unfold Lands
  rw [e]
  exact l

theorem xrows_at {c : Dev nD} {st : Fin 4} {h : ℕ} {j : S64x1024.Idx} {i : S4096x1024.Idx} (l : Lands c st h j i) :
    xrows m c st h j = held m i c := by
  have e' : k0_off1 c (dirW st 0 h) (offW st) = ![256 * chunk c st h + offN st, 0] := off_eq c st h false
  have h0 : ((xV c st h).view.emb j 0).val = k0_off1 c (dirW st 0 h) (offW st) 0 + (j 0).val :=
    ValueKit.view_emb_slice_whole_unit_val main_arg0 _ _ _ j 0
  have h1 : ((xV c st h).view.emb j 1).val = k0_off1 c (dirW st 0 h) (offW st) 1 + (j 1).val :=
    ValueKit.view_emb_slice_whole_unit_val main_arg0 _ _ _ j 1
  rw [e'] at h0 h1
  have e : (xV c st h).view.emb j = i := by
    funext a
    fin_cases a
    · exact Fin.ext (h0.trans l.1)
    · exact Fin.ext ((h1.trans (Nat.zero_add _)).trans l.2)
  show (m ((c : Thread nD τ).loc main_arg0) : S4096x1024.Idx → EReal) ((xV c st h).view.emb j) = _
  rw [e]
  rfl

theorem blk_add (h : ℕ) (hh : h + 1 ≤ 15) (c : Dev nD) (st : Fin 4) (j : S64x1024.Idx) :
    (blk m (h + 1) c st j : EReal) = (blk m h (src st c) st j : EReal) + (xrows m c st (h + 1) j : EReal) := by
  have e : blk m (h + 1) c st = addf (blk m h (src st c) st) (xrows m c st (h + 1)) := if_pos hh
  rw [e]
  rfl

theorem blk_carry (h : ℕ) (hh : ¬ h + 1 ≤ 15) (c : Dev nD) (st : Fin 4) : blk m (h + 1) c st = blk m h (src st c) st := if_neg hh

/-- For the first half of the way: the sum over the devices passed. -/
theorem blk_sum (st : Fin 4) (j : S64x1024.Idx) (i : S4096x1024.Idx) (h : ℕ) :
    h ≤ 15 → ∀ c, Lands c st h j i → (blk m h c st j : EReal) = ∑ k ∈ Finset.range (h + 1), held m i ((src st)^[k] c) := by
  induction h with
  | zero =>
    intro _ c l
    rw [Finset.sum_range_one]
    exact xrows_at m l
  | succ h ih =>
    intro hh c l
    rw [blk_add m h hh, xrows_at m l, ih (by omega) (src st c) (l.back (by omega)), Finset.sum_range_succ' _ (h + 1)]
    rfl

/-- Sixteen steps along a stream meet every device once. -/
theorem round_inj : ∀ (st : Fin 4) (c : Dev nD) (a b : Fin 16), (src st)^[a.val] c = (src st)^[b.val] c → a = b := by decide +kernel

theorem round_sum (st : Fin 4) (c : Dev nD) (f : Dev nD → EReal) : ∑ k ∈ Finset.range 16, f ((src st)^[k] c) = ∑ d, f d := by
  rw [Finset.sum_range]
  have hi : Function.Injective fun k : Fin 16 => (src st)^[k.val] c := fun a b => round_inj st c a b
  exact Function.Bijective.sum_comp (Finite.injective_iff_bijective.mp hi) f

/-- From the fifteenth hop on: the sum over all devices. -/
theorem blk_full (st : Fin 4) (j : S64x1024.Idx) (i : S4096x1024.Idx) (r : ℕ) :
    r < 16 → ∀ c, Lands c st (15 + r) j i → (blk m (15 + r) c st j : EReal) = ∑ d, held m i d := by
  induction r with
  | zero =>
    intro _ c l
    exact (blk_sum m st j i 15 le_rfl c l).trans (round_sum st c (held m i))
  | succ r ih =>
    intro hr c l
    have e : blk m (15 + r + 1) c st = blk m (15 + r) (src st c) st := blk_carry m (15 + r) (by omega) c st
    show (blk m (15 + r + 1) c st j : EReal) = _
    rw [e]
    exact ih (by omega) (src st c) (Lands.back (h := 15 + r) (by omega) l)

/-- The result on a device is the sum of the devices' arrays. -/
theorem outG_sum (c : Dev nD) (i : S4096x1024.Idx) : (outG m c i : EReal) = ∑ d, held m i d := by
  have l0 : (i 0).val < 4096 := (i 0).isLt
  have hb := group_of c ⟨(i 0).val / 64, by omega⟩
  dsimp only at hb
  have ho := offN_group (groupSt ((i 0).val / 64))
  unfold group at hb
  unfold outG
  refine blk_full m _ _ i _ (groupIx c ((i 0).val / 64)).isLt c ⟨?_, rfl⟩
  show 256 * chunk c (groupSt ((i 0).val / 64)) (15 + (groupIx c ((i 0).val / 64)).val) + offN (groupSt ((i 0).val / 64)) + (i 0).val % 64 = (i 0).val
  omega

end Block

/-! ## The reference -/

/-- The whole array's element a device's element is. -/
def inWhole (i : S4096x1024.Idx) (d : Fin 16) : ReferenceIdeal.S65536x1024.Idx :=
  (show Layout.Tiles ⟨2, ![4096, 1024]⟩ ⟨2, ![65536, 1024]⟩ 0 16 by decide).idx d i

/-- What the reference computes of the whole array. -/
abbrev refOut (x : FVec Ideal ReferenceIdeal.S65536x1024 .f32) : FVec Ideal ReferenceIdeal.S4096x1024 .f32 :=
  Host.reduceAdd (shapeCast ReferenceIdeal.S16x4096x1024 x ReferenceIdeal.Gen.facts.shapeCasts_S65536x1024_S16x4096x1024) (constant ReferenceIdeal.S_ .f32 0x00000000#32)
    ReferenceIdeal.Gen.facts.reducesTo_S16x4096x1024_S4096x1024_d0 ReferenceIdeal.Gen.facts.h_S_

/-- The slices are added up over one axis. -/
theorem slices : ReferenceIdeal.S16x4096x1024.Reduces [0] ReferenceIdeal.S4096x1024 := by decide

theorem slice_at (x : FVec Ideal ReferenceIdeal.S65536x1024 .f32) (h : ReferenceIdeal.S65536x1024.ShapeCasts ReferenceIdeal.S16x4096x1024)
    (i : ReferenceIdeal.S4096x1024.Idx) (d : Fin 16) : shapeCast ReferenceIdeal.S16x4096x1024 x h (slices.lift i d) = x (inWhole i d) := by
  refine shapeCast_apply x h _ _ ?_
  refine (Shape.rowMajor_val_two (d := ![65536, 1024]) (inWhole i d)).trans (Eq.trans ?_ (Shape.rowMajor_val_three (d := ![16, 4096, 1024]) (slices.lift i d)).symm)
  rfl

theorem refOut_sum (x : FVec Ideal ReferenceIdeal.S65536x1024 .f32) (i : ReferenceIdeal.S4096x1024.Idx) :
    (refOut x i : EReal) = ∑ d : Fin 16, (x (inWhole i d) : EReal) := by
  unfold refOut
  rw [Host.reduceAdd, Ideal.hostReduceAdd_def, Ideal.hostReduceAdd_single _ slices]
  have h0 : (constant (F := Ideal) ReferenceIdeal.S_ .f32 0x00000000#32 (Shape.Idx.first ReferenceIdeal.Gen.facts.h_S_) : EReal) = 0 := Ideal.ofBits_zero_f32
  rw [h0, zero_add]
  exact Finset.sum_congr rfl fun d _ => slice_at x _ i d

/-- From blocks of one whole array, the result on every device is what the reference computes. -/
theorem result_eq (m : (ℓ : Loc nD τ sig) → Buf (Elt Ideal) ℓ) (x : FVec Ideal ReferenceIdeal.S65536x1024 .f32)
    (hm : ∀ c : Dev nD, m ((c.tc : Thread nD τ).loc main_arg0) = Layout.block ⟨2, ![4096, 1024]⟩ ⟨2, ![65536, 1024]⟩ 0 16 c x) (c : Dev nD) :
    (outG m c : S4096x1024.Idx → EReal) = refOut x := by
  funext i
  rw [outG_sum, refOut_sum]
  refine Finset.sum_congr rfl fun d _ => ?_
  unfold held
  exact congrFun (hm d) i

end Cert.RingProof

end
-- ==== Proof.lean ====
/-
# The claims

The kernel and its reading over the extended reals have the same text, so both frames come from the one run proved
over any float values; the values are compared over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.RingProof

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values : Cert.algebraic_KernelIdeal_ReferenceIdeal := by
  intro m ρ m' ρ' _ hm
  refine ⟨refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).2.trans (result_eq m _ hm c), (h.1 c).1⟩) (run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, values⟩

end Cert.Proof

end
